-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v105)) (v2 : (c : Dev Cert.KernelIdeal.nD) → Buf (Elt Ideal) ((c.tc : Thread Cert.KernelIdeal.nD Cert.KernelIdeal.τ).loc Cert.KernelIdeal.main_v94)) (v3 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_v94) = v2 c
          ∧ r.2.mem ((c.tc : Thread Cert.KernelIdeal.nD Cert.KernelIdeal.τ).loc Cert.KernelIdeal.main_v109) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_v286) = v1 c
          ∧ r.2.mem ((c.tc : Thread Cert.ReferenceIdeal.nD Cert.ReferenceIdeal.τ).loc Cert.ReferenceIdeal.main_v267) = v2 c
          ∧ r.2.mem ((c.tc : Thread Cert.ReferenceIdeal.nD Cert.ReferenceIdeal.τ).loc Cert.ReferenceIdeal.main_v290) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144x3 : Shape := ⟨2, ![262144, 3]⟩
abbrev S9x32 : Shape := ⟨2, ![9, 32]⟩
abbrev S32 : Shape := ⟨1, ![32]⟩
abbrev S1x32 : Shape := ⟨2, ![1, 32]⟩
abbrev S3x262144 : Shape := ⟨2, ![3, 262144]⟩
abbrev S1x262144 : Shape := ⟨2, ![1, 262144]⟩
abbrev S262144 : Shape := ⟨1, ![262144]⟩
abbrev S3x2048 : Shape := ⟨2, ![3, 2048]⟩
abbrev S1x2048 : Shape := ⟨2, ![1, 2048]⟩
abbrev S_ : Shape := ⟨0, ![]⟩
abbrev S262144x1 : Shape := ⟨2, ![262144, 1]⟩
abbrev S262144x9 : Shape := ⟨2, ![262144, 9]⟩
abbrev S262144x32 : Shape := ⟨2, ![262144, 32]⟩
abbrev S2048x9 : Shape := ⟨2, ![2048, 9]⟩
abbrev S2048x32 : Shape := ⟨2, ![2048, 32]⟩
abbrev S1x262144x32 : Shape := ⟨3, ![1, 262144, 32]⟩
abbrev S2x262144x32 : Shape := ⟨3, ![2, 262144, 32]⟩
abbrev S2x262144 : Shape := ⟨2, ![2, 262144]⟩

abbrev nBuf : Space → Nat
  | .hbm => 150
  | .vmem => 42
  | .smem => 0
  | _ => 0

abbrev hbmTy0_0 (i : Nat) : BufTy := match i % 128 with
  | 0 => ⟨S262144x3, .f32⟩
  | 1 => ⟨S262144x3, .f32⟩
  | 2 => ⟨S262144x3, .f32⟩
  | 3 => ⟨S9x32, .f32⟩
  | 4 => ⟨S32, .f32⟩
  | 5 => ⟨S1x32, .f32⟩
  | 6 => ⟨S3x262144, .f32⟩
  | 7 => ⟨S3x262144, .f32⟩
  | 8 => ⟨S1x262144, .i32⟩
  | 9 => ⟨S3x262144, .f32⟩
  | 10 => ⟨S262144, .i32⟩
  | 11 => ⟨S262144x3, .f32⟩
  | 12 => ⟨S_, .f32⟩
  | 13 => ⟨S262144, .f32⟩
  | 14 => ⟨S_, .f32⟩
  | 15 => ⟨S262144, .f32⟩
  | 16 => ⟨S262144x1, .i32⟩
  | 17 => ⟨S262144, .f32⟩
  | 18 => ⟨S_, .f32⟩
  | 19 => ⟨S262144x3, .f32⟩
  | 20 => ⟨S262144x1, .i32⟩
  | 21 => ⟨S262144x3, .f32⟩
  | 22 => ⟨S_, .f32⟩
  | 23 => ⟨S262144, .f32⟩
  | 24 => ⟨S262144, .f32⟩
  | 25 => ⟨S262144x1, .f32⟩
  | 26 => ⟨S262144x3, .f32⟩
  | 27 => ⟨S262144x3, .f32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144x3, .f32⟩
  | 37 => ⟨S262144x3, .f32⟩
  | 38 => ⟨S262144x3, .f32⟩
  | 39 => ⟨S262144x9, .f32⟩
  | 40 => ⟨S262144x32, .f32⟩
  | 41 => ⟨S_, .f32⟩
  | 42 => ⟨S262144x32, .f32⟩
  | 43 => ⟨S262144x1, .i32⟩
  | 44 => ⟨S262144x32, .f32⟩
  | 45 => ⟨S_, .f32⟩
  | 46 => ⟨S262144, .f32⟩
  | 47 => ⟨S262144, .f32⟩
  | 48 => ⟨S262144x1, .f32⟩
  | 49 => ⟨S262144x32, .f32⟩
  | 50 => ⟨S262144x32, .f32⟩
  | 51 => ⟨S3x262144, .f32⟩
  | 52 => ⟨S3x262144, .f32⟩
  | 53 => ⟨S1x262144, .i32⟩
  | 54 => ⟨S3x262144, .f32⟩
  | 55 => ⟨S262144, .i32⟩
  | 56 => ⟨S262144x3, .f32⟩
  | 57 => ⟨S_, .f32⟩
  | 58 => ⟨S262144, .f32⟩
  | 59 => ⟨S_, .f32⟩
  | 60 => ⟨S262144, .f32⟩
  | 61 => ⟨S262144x1, .i32⟩
  | 62 => ⟨S262144, .f32⟩
  | 63 => ⟨S_, .f32⟩
  | 64 => ⟨S262144x3, .f32⟩
  | 65 => ⟨S262144x1, .i32⟩
  | 66 => ⟨S262144x3, .f32⟩
  | 67 => ⟨S_, .f32⟩
  | 68 => ⟨S262144, .f32⟩
  | 69 => ⟨S262144, .f32⟩
  | 70 => ⟨S262144x1, .f32⟩
  | 71 => ⟨S262144x3, .f32⟩
  | 72 => ⟨S262144x3, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S262144x3, .f32⟩
  | 82 => ⟨S262144x3, .f32⟩
  | 83 => ⟨S262144x3, .f32⟩
  | 84 => ⟨S262144x9, .f32⟩
  | 85 => ⟨S262144x32, .f32⟩
  | 86 => ⟨S_, .f32⟩
  | 87 => ⟨S262144x32, .f32⟩
  | 88 => ⟨S262144x1, .i32⟩
  | 89 => ⟨S262144x32, .f32⟩
  | 90 => ⟨S_, .f32⟩
  | 91 => ⟨S262144, .f32⟩
  | 92 => ⟨S262144, .f32⟩
  | 93 => ⟨S262144x1, .f32⟩
  | 94 => ⟨S262144x32, .f32⟩
  | 95 => ⟨S262144x32, .f32⟩
  | 96 => ⟨S3x262144, .f32⟩
  | 97 => ⟨S3x262144, .f32⟩
  | 98 => ⟨S1x262144, .i32⟩
  | 99 => ⟨S3x262144, .f32⟩
  | 100 => ⟨S262144, .i32⟩
  | 101 => ⟨S262144x3, .f32⟩
  | 102 => ⟨S_, .f32⟩
  | 103 => ⟨S262144, .f32⟩
  | 104 => ⟨S_, .f32⟩
  | 105 => ⟨S262144, .f32⟩
  | 106 => ⟨S262144x1, .i32⟩
  | 107 => ⟨S262144, .f32⟩
  | 108 => ⟨S_, .f32⟩
  | 109 => ⟨S262144x3, .f32⟩
  | 110 => ⟨S262144x1, .i32⟩
  | 111 => ⟨S262144x3, .f32⟩
  | 112 => ⟨S_, .f32⟩
  | 113 => ⟨S262144, .f32⟩
  | 114 => ⟨S262144, .f32⟩
  | 115 => ⟨S262144x1, .f32⟩
  | 116 => ⟨S262144x3, .f32⟩
  | 117 => ⟨S262144x3, .f32⟩
  | 118 => ⟨S_, .i32⟩
  | 119 => ⟨S262144, .i32⟩
  | 120 => ⟨S262144, .i1⟩
  | 121 => ⟨S_, .i32⟩
  | 122 => ⟨S262144, .i32⟩
  | 123 => ⟨S262144, .i32⟩
  | 124 => ⟨S262144, .i32⟩
  | 125 => ⟨S262144x1, .i32⟩
  | 126 => ⟨S262144x3, .f32⟩
  | 127 => ⟨S262144x3, .f32⟩
  | _ => ⟨S262144x3, .f32⟩

abbrev hbmTy0_1 (i : Nat) : BufTy := match i % 128 with
  | 0 => ⟨S262144x3, .f32⟩
  | 1 => ⟨S262144x9, .f32⟩
  | 2 => ⟨S262144x32, .f32⟩
  | 3 => ⟨S1x262144x32, .f32⟩
  | 4 => ⟨S1x262144x32, .f32⟩
  | 5 => ⟨S2x262144x32, .f32⟩
  | 6 => ⟨S_, .f32⟩
  | 7 => ⟨S262144, .f32⟩
  | 8 => ⟨S262144, .i1⟩
  | 9 => ⟨S_, .f32⟩
  | 10 => ⟨S262144, .f32⟩
  | 11 => ⟨S262144, .i1⟩
  | 12 => ⟨S1x262144, .i1⟩
  | 13 => ⟨S1x262144, .i1⟩
  | 14 => ⟨S2x262144, .i1⟩
  | 15 => ⟨S2x262144, .i32⟩
  | 16 => ⟨S_, .f32⟩
  | 17 => ⟨S262144, .f32⟩
  | 18 => ⟨S262144, .i1⟩
  | 19 => ⟨S262144, .i32⟩
  | 20 => ⟨S_, .i32⟩
  | 21 => ⟨S_, .i32⟩
  | _ => ⟨S262144x3, .f32⟩

abbrev hbmTy (i : Nat) : BufTy := match i / 128 with
  | 0 => hbmTy0_0 i
  | 1 => hbmTy0_1 i
  | _ => ⟨S262144x3, .f32⟩

abbrev bufTy : (tb : Table) → Fin (tcTables nBuf tb) → BufTy
  | .hbm, ⟨i, _⟩ => hbmTy i
  | .local _ .vmem, ⟨0, _⟩ => ⟨S3x2048, .f32⟩
  | .local _ .vmem, ⟨1, _⟩ => ⟨S3x2048, .f32⟩
  | .local _ .vmem, ⟨2, _⟩ => ⟨S3x2048, .f32⟩
  | .local _ .vmem, ⟨3, _⟩ => ⟨S3x2048, .f32⟩
  | .local _ .vmem, ⟨4, _⟩ => ⟨S1x2048, .i32⟩
  | .local _ .vmem, ⟨5, _⟩ => ⟨S1x2048, .i32⟩
  | .local _ .vmem, ⟨6, _⟩ => ⟨S3x2048, .f32⟩
  | .local _ .vmem, ⟨7, _⟩ => ⟨S3x2048, .f32⟩
  | .local _ .vmem, ⟨8, _⟩ => ⟨S2048x9, .f32⟩
  | .local _ .vmem, ⟨9, _⟩ => ⟨S2048x9, .f32⟩
  | .local _ .vmem, ⟨10, _⟩ => ⟨S9x32, .f32⟩
  | .local _ .vmem, ⟨11, _⟩ => ⟨S1x32, .f32⟩
  | .local _ .vmem, ⟨12, _⟩ => ⟨S2048x32, .f32⟩
  | .local _ .vmem, ⟨13, _⟩ => ⟨S2048x32, .f32⟩
  | .local _ .vmem, ⟨14, _⟩ => ⟨S3x2048, .f32⟩
  | .local _ .vmem, ⟨15, _⟩ => ⟨S3x2048, .f32⟩
  | .local _ .vmem, ⟨16, _⟩ => ⟨S3x2048, .f32⟩
  | .local _ .vmem, ⟨17, _⟩ => ⟨S3x2048, .f32⟩
  | .local _ .vmem, ⟨18, _⟩ => ⟨S1x2048, .i32⟩
  | .local _ .vmem, ⟨19, _⟩ => ⟨S1x2048, .i32⟩
  | .local _ .vmem, ⟨20, _⟩ => ⟨S3x2048, .f32⟩
  | .local _ .vmem, ⟨21, _⟩ => ⟨S3x2048, .f32⟩
  | .local _ .vmem, ⟨22, _⟩ => ⟨S2048x9, .f32⟩
  | .local _ .vmem, ⟨23, _⟩ => ⟨S2048x9, .f32⟩
  | .local _ .vmem, ⟨24, _⟩ => ⟨S9x32, .f32⟩
  | .local _ .vmem, ⟨25, _⟩ => ⟨S1x32, .f32⟩
  | .local _ .vmem, ⟨26, _⟩ => ⟨S2048x32, .f32⟩
  | .local _ .vmem, ⟨27, _⟩ => ⟨S2048x32, .f32⟩
  | .local _ .vmem, ⟨28, _⟩ => ⟨S3x2048, .f32⟩
  | .local _ .vmem, ⟨29, _⟩ => ⟨S3x2048, .f32⟩
  | .local _ .vmem, ⟨30, _⟩ => ⟨S3x2048, .f32⟩
  | .local _ .vmem, ⟨31, _⟩ => ⟨S3x2048, .f32⟩
  | .local _ .vmem, ⟨32, _⟩ => ⟨S1x2048, .i32⟩
  | .local _ .vmem, ⟨33, _⟩ => ⟨S1x2048, .i32⟩
  | .local _ .vmem, ⟨34, _⟩ => ⟨S3x2048, .f32⟩
  | .local _ .vmem, ⟨35, _⟩ => ⟨S3x2048, .f32⟩
  | .local _ .vmem, ⟨36, _⟩ => ⟨S2048x9, .f32⟩
  | .local _ .vmem, ⟨37, _⟩ => ⟨S2048x9, .f32⟩
  | .local _ .vmem, ⟨38, _⟩ => ⟨S9x32, .f32⟩
  | .local _ .vmem, ⟨39, _⟩ => ⟨S1x32, .f32⟩
  | .local _ .vmem, ⟨40, _⟩ => ⟨S2048x32, .f32⟩
  | .local _ .vmem, ⟨41, _⟩ => ⟨S2048x32, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_call0_v0_1 : Ref sig .tc := ⟨.hbm, 8, rfl⟩
abbrev main_v2_2 : Ref sig .tc := ⟨.hbm, 9, rfl⟩
abbrev main_v2_1 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_call2_v0_1 : Ref sig .tc := ⟨.hbm, 53, rfl⟩
abbrev main_v36_2 : Ref sig .tc := ⟨.hbm, 54, rfl⟩
abbrev main_v36_1 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70_0 : Ref sig .tc := ⟨.hbm, 97, rfl⟩
abbrev main_call4_v0_1 : Ref sig .tc := ⟨.hbm, 98, rfl⟩
abbrev main_v70_2 : Ref sig .tc := ⟨.hbm, 99, rfl⟩
abbrev main_v70_1 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_18 : Ref sig .tc := ⟨.hbm, 118, rfl⟩
abbrev main_v84 : Ref sig .tc := ⟨.hbm, 119, rfl⟩
abbrev main_v85 : Ref sig .tc := ⟨.hbm, 120, rfl⟩
abbrev main_c_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_20 : Ref sig .tc := ⟨.hbm, 134, rfl⟩
abbrev main_v98 : Ref sig .tc := ⟨.hbm, 135, rfl⟩
abbrev main_v99 : Ref sig .tc := ⟨.hbm, 136, rfl⟩
abbrev main_cst_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_22 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_23 : Ref sig .tc := ⟨.hbm, 148, rfl⟩
abbrev main_v109 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S3x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x9 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![128], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S3x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x2048 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S3x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![128], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x9 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S9x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2048x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]
-- ==== ReferenceIdeal.lean ====
abbrev S262144x3 : Shape := ⟨2, ![262144, 3]⟩
abbrev S9x32 : Shape := ⟨2, ![9, 32]⟩
abbrev S32 : Shape := ⟨1, ![32]⟩
abbrev S3 : Shape := ⟨1, ![3]⟩
abbrev S1x3 : Shape := ⟨2, ![1, 3]⟩
abbrev S262144x1 : Shape := ⟨2, ![262144, 1]⟩
abbrev S262144 : Shape := ⟨1, ![262144]⟩
abbrev S_ : Shape := ⟨0, ![]⟩
abbrev S1 : Shape := ⟨1, ![1]⟩
abbrev S262144x9 : Shape := ⟨2, ![262144, 9]⟩
abbrev S262144x32 : Shape := ⟨2, ![262144, 32]⟩
abbrev S1x32 : Shape := ⟨2, ![1, 32]⟩
abbrev S1x262144x32 : Shape := ⟨3, ![1, 262144, 32]⟩
abbrev S2x262144x32 : Shape := ⟨3, ![2, 262144, 32]⟩
abbrev S1x262144 : Shape := ⟨2, ![1, 262144]⟩
abbrev S2x262144 : Shape := ⟨2, ![2, 262144]⟩

abbrev nBuf : Space → Nat
  | .hbm => 393
  | .vmem => 0
  | .smem => 0
  | _ => 0

abbrev hbmTy0_0 (i : Nat) : BufTy := match i % 128 with
  | 0 => ⟨S262144x3, .f32⟩
  | 1 => ⟨S262144x3, .f32⟩
  | 2 => ⟨S262144x3, .f32⟩
  | 3 => ⟨S9x32, .f32⟩
  | 4 => ⟨S32, .f32⟩
  | 5 => ⟨S3, .f32⟩
  | 6 => ⟨S3, .f32⟩
  | 7 => ⟨S3, .f32⟩
  | 8 => ⟨S3, .f32⟩
  | 9 => ⟨S3, .f32⟩
  | 10 => ⟨S3, .f32⟩
  | 11 => ⟨S3, .f32⟩
  | 12 => ⟨S3, .f32⟩
  | 13 => ⟨S3, .f32⟩
  | 14 => ⟨S3, .f32⟩
  | 15 => ⟨S1x3, .f32⟩
  | 16 => ⟨S262144x3, .f32⟩
  | 17 => ⟨S262144x3, .f32⟩
  | 18 => ⟨S1x3, .f32⟩
  | 19 => ⟨S262144x3, .f32⟩
  | 20 => ⟨S262144x3, .f32⟩
  | 21 => ⟨S1x3, .f32⟩
  | 22 => ⟨S262144x3, .f32⟩
  | 23 => ⟨S262144x3, .f32⟩
  | 24 => ⟨S1x3, .f32⟩
  | 25 => ⟨S262144x3, .f32⟩
  | 26 => ⟨S262144x3, .f32⟩
  | 27 => ⟨S262144x3, .f32⟩
  | 28 => ⟨S262144x3, .i32⟩
  | 29 => ⟨S262144x1, .i32⟩
  | 30 => ⟨S262144, .i32⟩
  | 31 => ⟨S_, .i32⟩
  | 32 => ⟨S_, .i32⟩
  | 33 => ⟨S_, .i32⟩
  | 34 => ⟨S262144, .i32⟩
  | 35 => ⟨S262144, .i32⟩
  | 36 => ⟨S_, .i32⟩
  | 37 => ⟨S262144, .i32⟩
  | 38 => ⟨S262144, .i32⟩
  | 39 => ⟨S262144x1, .i32⟩
  | 40 => ⟨S262144, .i32⟩
  | 41 => ⟨S_, .i32⟩
  | 42 => ⟨S_, .i32⟩
  | 43 => ⟨S_, .i32⟩
  | 44 => ⟨S262144, .i32⟩
  | 45 => ⟨S262144, .i32⟩
  | 46 => ⟨S_, .i32⟩
  | 47 => ⟨S262144, .i32⟩
  | 48 => ⟨S262144, .i32⟩
  | 49 => ⟨S_, .i32⟩
  | 50 => ⟨S262144, .i32⟩
  | 51 => ⟨S262144, .i32⟩
  | 52 => ⟨S262144, .i32⟩
  | 53 => ⟨S_, .f32⟩
  | 54 => ⟨S262144, .f32⟩
  | 55 => ⟨S_, .f32⟩
  | 56 => ⟨S262144, .f32⟩
  | 57 => ⟨S262144x1, .i32⟩
  | 58 => ⟨S262144, .f32⟩
  | 59 => ⟨S_, .f32⟩
  | 60 => ⟨S262144x3, .f32⟩
  | 61 => ⟨S262144x1, .i32⟩
  | 62 => ⟨S262144x3, .f32⟩
  | 63 => ⟨S_, .f32⟩
  | 64 => ⟨S262144, .f32⟩
  | 65 => ⟨S262144, .f32⟩
  | 66 => ⟨S262144x1, .f32⟩
  | 67 => ⟨S262144x3, .f32⟩
  | 68 => ⟨S262144x3, .f32⟩
  | 69 => ⟨S_, .i32⟩
  | 70 => ⟨S262144, .i32⟩
  | 71 => ⟨S262144, .i1⟩
  | 72 => ⟨S_, .i32⟩
  | 73 => ⟨S262144, .i32⟩
  | 74 => ⟨S262144, .i32⟩
  | 75 => ⟨S262144, .i32⟩
  | 76 => ⟨S262144x1, .i32⟩
  | 77 => ⟨S262144x3, .f32⟩
  | 78 => ⟨S262144x3, .f32⟩
  | 79 => ⟨S262144, .f32⟩
  | 80 => ⟨S_, .f32⟩
  | 81 => ⟨S262144, .f32⟩
  | 82 => ⟨S262144, .f32⟩
  | 83 => ⟨S1, .f32⟩
  | 84 => ⟨S_, .f32⟩
  | 85 => ⟨S262144, .f32⟩
  | 86 => ⟨S262144, .f32⟩
  | 87 => ⟨S1, .f32⟩
  | 88 => ⟨S_, .f32⟩
  | 89 => ⟨S262144, .f32⟩
  | 90 => ⟨S262144, .f32⟩
  | 91 => ⟨S262144, .f32⟩
  | 92 => ⟨S_, .f32⟩
  | 93 => ⟨S262144, .f32⟩
  | 94 => ⟨S262144, .f32⟩
  | 95 => ⟨S1, .f32⟩
  | 96 => ⟨S_, .f32⟩
  | 97 => ⟨S262144, .f32⟩
  | 98 => ⟨S262144, .f32⟩
  | 99 => ⟨S1, .f32⟩
  | 100 => ⟨S_, .f32⟩
  | 101 => ⟨S262144, .f32⟩
  | 102 => ⟨S262144, .f32⟩
  | 103 => ⟨S1, .f32⟩
  | 104 => ⟨S_, .f32⟩
  | 105 => ⟨S_, .f32⟩
  | 106 => ⟨S_, .f32⟩
  | 107 => ⟨S1, .f32⟩
  | 108 => ⟨S_, .f32⟩
  | 109 => ⟨S_, .f32⟩
  | 110 => ⟨S262144, .f32⟩
  | 111 => ⟨S262144x1, .f32⟩
  | 112 => ⟨S262144x1, .f32⟩
  | 113 => ⟨S262144x1, .f32⟩
  | 114 => ⟨S262144x3, .f32⟩
  | 115 => ⟨S262144x3, .f32⟩
  | 116 => ⟨S262144x9, .f32⟩
  | 117 => ⟨S262144x32, .f32⟩
  | 118 => ⟨S1x32, .f32⟩
  | 119 => ⟨S262144x32, .f32⟩
  | 120 => ⟨S262144x32, .f32⟩
  | 121 => ⟨S_, .f32⟩
  | 122 => ⟨S262144x32, .f32⟩
  | 123 => ⟨S262144x32, .f32⟩
  | 124 => ⟨S_, .f32⟩
  | 125 => ⟨S262144x32, .f32⟩
  | 126 => ⟨S262144x1, .i32⟩
  | 127 => ⟨S262144x32, .f32⟩
  | _ => ⟨S262144x3, .f32⟩

abbrev hbmTy0_1 (i : Nat) : BufTy := match i % 128 with
  | 0 => ⟨S_, .f32⟩
  | 1 => ⟨S262144, .f32⟩
  | 2 => ⟨S262144, .f32⟩
  | 3 => ⟨S262144x1, .f32⟩
  | 4 => ⟨S262144x32, .f32⟩
  | 5 => ⟨S262144x32, .f32⟩
  | 6 => ⟨S3, .f32⟩
  | 7 => ⟨S1x3, .f32⟩
  | 8 => ⟨S262144x3, .f32⟩
  | 9 => ⟨S262144x3, .f32⟩
  | 10 => ⟨S1x3, .f32⟩
  | 11 => ⟨S262144x3, .f32⟩
  | 12 => ⟨S262144x3, .f32⟩
  | 13 => ⟨S1x3, .f32⟩
  | 14 => ⟨S262144x3, .f32⟩
  | 15 => ⟨S262144x3, .f32⟩
  | 16 => ⟨S1x3, .f32⟩
  | 17 => ⟨S262144x3, .f32⟩
  | 18 => ⟨S262144x3, .f32⟩
  | 19 => ⟨S262144x3, .f32⟩
  | 20 => ⟨S262144x3, .i32⟩
  | 21 => ⟨S262144x1, .i32⟩
  | 22 => ⟨S262144, .i32⟩
  | 23 => ⟨S_, .i32⟩
  | 24 => ⟨S_, .i32⟩
  | 25 => ⟨S_, .i32⟩
  | 26 => ⟨S262144, .i32⟩
  | 27 => ⟨S262144, .i32⟩
  | 28 => ⟨S_, .i32⟩
  | 29 => ⟨S262144, .i32⟩
  | 30 => ⟨S262144, .i32⟩
  | 31 => ⟨S262144x1, .i32⟩
  | 32 => ⟨S262144, .i32⟩
  | 33 => ⟨S_, .i32⟩
  | 34 => ⟨S_, .i32⟩
  | 35 => ⟨S_, .i32⟩
  | 36 => ⟨S262144, .i32⟩
  | 37 => ⟨S262144, .i32⟩
  | 38 => ⟨S_, .i32⟩
  | 39 => ⟨S262144, .i32⟩
  | 40 => ⟨S262144, .i32⟩
  | 41 => ⟨S_, .i32⟩
  | 42 => ⟨S262144, .i32⟩
  | 43 => ⟨S262144, .i32⟩
  | 44 => ⟨S262144, .i32⟩
  | 45 => ⟨S_, .f32⟩
  | 46 => ⟨S262144, .f32⟩
  | 47 => ⟨S_, .f32⟩
  | 48 => ⟨S262144, .f32⟩
  | 49 => ⟨S262144x1, .i32⟩
  | 50 => ⟨S262144, .f32⟩
  | 51 => ⟨S_, .f32⟩
  | 52 => ⟨S262144x3, .f32⟩
  | 53 => ⟨S262144x1, .i32⟩
  | 54 => ⟨S262144x3, .f32⟩
  | 55 => ⟨S_, .f32⟩
  | 56 => ⟨S262144, .f32⟩
  | 57 => ⟨S262144, .f32⟩
  | 58 => ⟨S262144x1, .f32⟩
  | 59 => ⟨S262144x3, .f32⟩
  | 60 => ⟨S262144x3, .f32⟩
  | 61 => ⟨S_, .i32⟩
  | 62 => ⟨S262144, .i32⟩
  | 63 => ⟨S262144, .i1⟩
  | 64 => ⟨S_, .i32⟩
  | 65 => ⟨S262144, .i32⟩
  | 66 => ⟨S262144, .i32⟩
  | 67 => ⟨S262144, .i32⟩
  | 68 => ⟨S262144x1, .i32⟩
  | 69 => ⟨S262144x3, .f32⟩
  | 70 => ⟨S262144x3, .f32⟩
  | 71 => ⟨S262144, .f32⟩
  | 72 => ⟨S_, .f32⟩
  | 73 => ⟨S262144, .f32⟩
  | 74 => ⟨S262144, .f32⟩
  | 75 => ⟨S1, .f32⟩
  | 76 => ⟨S_, .f32⟩
  | 77 => ⟨S262144, .f32⟩
  | 78 => ⟨S262144, .f32⟩
  | 79 => ⟨S1, .f32⟩
  | 80 => ⟨S_, .f32⟩
  | 81 => ⟨S262144, .f32⟩
  | 82 => ⟨S262144, .f32⟩
  | 83 => ⟨S262144, .f32⟩
  | 84 => ⟨S_, .f32⟩
  | 85 => ⟨S262144, .f32⟩
  | 86 => ⟨S262144, .f32⟩
  | 87 => ⟨S1, .f32⟩
  | 88 => ⟨S_, .f32⟩
  | 89 => ⟨S262144, .f32⟩
  | 90 => ⟨S262144, .f32⟩
  | 91 => ⟨S1, .f32⟩
  | 92 => ⟨S_, .f32⟩
  | 93 => ⟨S262144, .f32⟩
  | 94 => ⟨S262144, .f32⟩
  | 95 => ⟨S1, .f32⟩
  | 96 => ⟨S_, .f32⟩
  | 97 => ⟨S_, .f32⟩
  | 98 => ⟨S_, .f32⟩
  | 99 => ⟨S1, .f32⟩
  | 100 => ⟨S_, .f32⟩
  | 101 => ⟨S_, .f32⟩
  | 102 => ⟨S262144, .f32⟩
  | 103 => ⟨S262144x1, .f32⟩
  | 104 => ⟨S262144x1, .f32⟩
  | 105 => ⟨S262144x1, .f32⟩
  | 106 => ⟨S262144x3, .f32⟩
  | 107 => ⟨S262144x3, .f32⟩
  | 108 => ⟨S262144x9, .f32⟩
  | 109 => ⟨S262144x32, .f32⟩
  | 110 => ⟨S1x32, .f32⟩
  | 111 => ⟨S262144x32, .f32⟩
  | 112 => ⟨S262144x32, .f32⟩
  | 113 => ⟨S_, .f32⟩
  | 114 => ⟨S262144x32, .f32⟩
  | 115 => ⟨S262144x32, .f32⟩
  | 116 => ⟨S_, .f32⟩
  | 117 => ⟨S262144x32, .f32⟩
  | 118 => ⟨S262144x1, .i32⟩
  | 119 => ⟨S262144x32, .f32⟩
  | 120 => ⟨S_, .f32⟩
  | 121 => ⟨S262144, .f32⟩
  | 122 => ⟨S262144, .f32⟩
  | 123 => ⟨S262144x1, .f32⟩
  | 124 => ⟨S262144x32, .f32⟩
  | 125 => ⟨S262144x32, .f32⟩
  | 126 => ⟨S3, .f32⟩
  | 127 => ⟨S1x3, .f32⟩
  | _ => ⟨S262144x3, .f32⟩

abbrev hbmTy0_2 (i : Nat) : BufTy := match i % 128 with
  | 0 => ⟨S262144x3, .f32⟩
  | 1 => ⟨S262144x3, .f32⟩
  | 2 => ⟨S1x3, .f32⟩
  | 3 => ⟨S262144x3, .f32⟩
  | 4 => ⟨S262144x3, .f32⟩
  | 5 => ⟨S1x3, .f32⟩
  | 6 => ⟨S262144x3, .f32⟩
  | 7 => ⟨S262144x3, .f32⟩
  | 8 => ⟨S1x3, .f32⟩
  | 9 => ⟨S262144x3, .f32⟩
  | 10 => ⟨S262144x3, .f32⟩
  | 11 => ⟨S262144x3, .f32⟩
  | 12 => ⟨S262144x3, .i32⟩
  | 13 => ⟨S262144x1, .i32⟩
  | 14 => ⟨S262144, .i32⟩
  | 15 => ⟨S_, .i32⟩
  | 16 => ⟨S_, .i32⟩
  | 17 => ⟨S_, .i32⟩
  | 18 => ⟨S262144, .i32⟩
  | 19 => ⟨S262144, .i32⟩
  | 20 => ⟨S_, .i32⟩
  | 21 => ⟨S262144, .i32⟩
  | 22 => ⟨S262144, .i32⟩
  | 23 => ⟨S262144x1, .i32⟩
  | 24 => ⟨S262144, .i32⟩
  | 25 => ⟨S_, .i32⟩
  | 26 => ⟨S_, .i32⟩
  | 27 => ⟨S_, .i32⟩
  | 28 => ⟨S262144, .i32⟩
  | 29 => ⟨S262144, .i32⟩
  | 30 => ⟨S_, .i32⟩
  | 31 => ⟨S262144, .i32⟩
  | 32 => ⟨S262144, .i32⟩
  | 33 => ⟨S_, .i32⟩
  | 34 => ⟨S262144, .i32⟩
  | 35 => ⟨S262144, .i32⟩
  | 36 => ⟨S262144, .i32⟩
  | 37 => ⟨S_, .f32⟩
  | 38 => ⟨S262144, .f32⟩
  | 39 => ⟨S_, .f32⟩
  | 40 => ⟨S262144, .f32⟩
  | 41 => ⟨S262144x1, .i32⟩
  | 42 => ⟨S262144, .f32⟩
  | 43 => ⟨S_, .f32⟩
  | 44 => ⟨S262144x3, .f32⟩
  | 45 => ⟨S262144x1, .i32⟩
  | 46 => ⟨S262144x3, .f32⟩
  | 47 => ⟨S_, .f32⟩
  | 48 => ⟨S262144, .f32⟩
  | 49 => ⟨S262144, .f32⟩
  | 50 => ⟨S262144x1, .f32⟩
  | 51 => ⟨S262144x3, .f32⟩
  | 52 => ⟨S262144x3, .f32⟩
  | 53 => ⟨S_, .i32⟩
  | 54 => ⟨S262144, .i32⟩
  | 55 => ⟨S262144, .i1⟩
  | 56 => ⟨S_, .i32⟩
  | 57 => ⟨S262144, .i32⟩
  | 58 => ⟨S262144, .i32⟩
  | 59 => ⟨S262144, .i32⟩
  | 60 => ⟨S262144x1, .i32⟩
  | 61 => ⟨S262144x3, .f32⟩
  | 62 => ⟨S262144x3, .f32⟩
  | 63 => ⟨S262144, .f32⟩
  | 64 => ⟨S_, .f32⟩
  | 65 => ⟨S262144, .f32⟩
  | 66 => ⟨S262144, .f32⟩
  | 67 => ⟨S1, .f32⟩
  | 68 => ⟨S_, .f32⟩
  | 69 => ⟨S262144, .f32⟩
  | 70 => ⟨S262144, .f32⟩
  | 71 => ⟨S1, .f32⟩
  | 72 => ⟨S_, .f32⟩
  | 73 => ⟨S262144, .f32⟩
  | 74 => ⟨S262144, .f32⟩
  | 75 => ⟨S262144, .f32⟩
  | 76 => ⟨S_, .f32⟩
  | 77 => ⟨S262144, .f32⟩
  | 78 => ⟨S262144, .f32⟩
  | 79 => ⟨S1, .f32⟩
  | 80 => ⟨S_, .f32⟩
  | 81 => ⟨S262144, .f32⟩
  | 82 => ⟨S262144, .f32⟩
  | 83 => ⟨S1, .f32⟩
  | 84 => ⟨S_, .f32⟩
  | 85 => ⟨S262144, .f32⟩
  | 86 => ⟨S262144, .f32⟩
  | 87 => ⟨S1, .f32⟩
  | 88 => ⟨S_, .f32⟩
  | 89 => ⟨S_, .f32⟩
  | 90 => ⟨S_, .f32⟩
  | 91 => ⟨S1, .f32⟩
  | 92 => ⟨S_, .f32⟩
  | 93 => ⟨S_, .f32⟩
  | 94 => ⟨S262144, .f32⟩
  | 95 => ⟨S262144x1, .f32⟩
  | 96 => ⟨S262144x1, .f32⟩
  | 97 => ⟨S262144x1, .f32⟩
  | 98 => ⟨S262144x3, .f32⟩
  | 99 => ⟨S262144x3, .f32⟩
  | 100 => ⟨S262144x9, .f32⟩
  | 101 => ⟨S262144x32, .f32⟩
  | 102 => ⟨S1x32, .f32⟩
  | 103 => ⟨S262144x32, .f32⟩
  | 104 => ⟨S262144x32, .f32⟩
  | 105 => ⟨S_, .f32⟩
  | 106 => ⟨S262144x32, .f32⟩
  | 107 => ⟨S262144x32, .f32⟩
  | 108 => ⟨S_, .f32⟩
  | 109 => ⟨S262144x32, .f32⟩
  | 110 => ⟨S262144x1, .i32⟩
  | 111 => ⟨S262144x32, .f32⟩
  | 112 => ⟨S_, .f32⟩
  | 113 => ⟨S262144, .f32⟩
  | 114 => ⟨S262144, .f32⟩
  | 115 => ⟨S262144x1, .f32⟩
  | 116 => ⟨S262144x32, .f32⟩
  | 117 => ⟨S262144x32, .f32⟩
  | 118 => ⟨S1x262144x32, .f32⟩
  | 119 => ⟨S1x262144x32, .f32⟩
  | 120 => ⟨S2x262144x32, .f32⟩
  | 121 => ⟨S_, .f32⟩
  | 122 => ⟨S262144, .f32⟩
  | 123 => ⟨S262144, .i1⟩
  | 124 => ⟨S_, .f32⟩
  | 125 => ⟨S262144, .f32⟩
  | 126 => ⟨S262144, .i1⟩
  | 127 => ⟨S1x262144, .i1⟩
  | _ => ⟨S262144x3, .f32⟩

abbrev hbmTy0_3 (i : Nat) : BufTy := match i % 128 with
  | 0 => ⟨S1x262144, .i1⟩
  | 1 => ⟨S2x262144, .i1⟩
  | 2 => ⟨S2x262144, .i32⟩
  | 3 => ⟨S_, .f32⟩
  | 4 => ⟨S262144, .f32⟩
  | 5 => ⟨S262144, .i1⟩
  | 6 => ⟨S262144, .i32⟩
  | 7 => ⟨S_, .i32⟩
  | 8 => ⟨S_, .i32⟩
  | _ => ⟨S262144x3, .f32⟩

abbrev hbmTy (i : Nat) : BufTy := match i / 128 with
  | 0 => hbmTy0_0 i
  | 1 => hbmTy0_1 i
  | 2 => hbmTy0_2 i
  | 3 => hbmTy0_3 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_cst_3 : Ref sig .tc := ⟨.hbm, 9, rfl⟩
abbrev main_cst_4 : Ref sig .tc := ⟨.hbm, 10, rfl⟩
abbrev main_cst_5 : Ref sig .tc := ⟨.hbm, 11, rfl⟩
abbrev main_cst_6 : Ref sig .tc := ⟨.hbm, 12, rfl⟩
abbrev main_cst_7 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_c_8 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_9 : Ref sig .tc := ⟨.hbm, 41, rfl⟩
abbrev main_c_10 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v20 : Ref sig .tc := ⟨.hbm, 48, rfl⟩
abbrev main_c_11 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_12 : Ref sig .tc := ⟨.hbm, 53, rfl⟩
abbrev main_v24 : Ref sig .tc := ⟨.hbm, 54, rfl⟩
abbrev main_cst_13 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_14 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_15 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_16 : Ref sig .tc := ⟨.hbm, 69, rfl⟩
abbrev main_v36 : Ref sig .tc := ⟨.hbm, 70, rfl⟩
abbrev main_v37 : Ref sig .tc := ⟨.hbm, 71, rfl⟩
abbrev main_c_17 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_18 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_19 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_20 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_call2_cst : Ref sig .tc := ⟨.hbm, 121, rfl⟩
abbrev main_call2_v0 : Ref sig .tc := ⟨.hbm, 122, rfl⟩
abbrev main_v83 : Ref sig .tc := ⟨.hbm, 123, rfl⟩
abbrev main_cst_21 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_22 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_23 : Ref sig .tc := ⟨.hbm, 151, rfl⟩
abbrev main_c_24 : Ref sig .tc := ⟨.hbm, 152, rfl⟩
abbrev main_call3_v0 : Ref sig .tc := ⟨.hbm, 153, rfl⟩
abbrev main_call3_v1 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_c_25 : Ref sig .tc := ⟨.hbm, 161, rfl⟩
abbrev main_c_26 : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_v112 : Ref sig .tc := ⟨.hbm, 168, rfl⟩
abbrev main_c_27 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_28 : Ref sig .tc := ⟨.hbm, 173, rfl⟩
abbrev main_v116 : Ref sig .tc := ⟨.hbm, 174, rfl⟩
abbrev main_cst_29 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_30 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_31 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_c_32 : Ref sig .tc := ⟨.hbm, 189, rfl⟩
abbrev main_v128 : Ref sig .tc := ⟨.hbm, 190, rfl⟩
abbrev main_v129 : Ref sig .tc := ⟨.hbm, 191, rfl⟩
abbrev main_c_33 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_cst_34 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_cst_35 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_36 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_call5_cst : Ref sig .tc := ⟨.hbm, 241, rfl⟩
abbrev main_call5_v0 : Ref sig .tc := ⟨.hbm, 242, rfl⟩
abbrev main_v175 : Ref sig .tc := ⟨.hbm, 243, rfl⟩
abbrev main_cst_37 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_cst_38 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_c_39 : Ref sig .tc := ⟨.hbm, 271, rfl⟩
abbrev main_c_40 : Ref sig .tc := ⟨.hbm, 272, rfl⟩
abbrev main_call6_v0 : Ref sig .tc := ⟨.hbm, 273, rfl⟩
abbrev main_call6_v1 : Ref sig .tc := ⟨.hbm, 274, rfl⟩
abbrev main_call6_v2 : Ref sig .tc := ⟨.hbm, 275, rfl⟩
abbrev main_call6_v3 : Ref sig .tc := ⟨.hbm, 276, rfl⟩
abbrev main_call6_v4 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_c_41 : Ref sig .tc := ⟨.hbm, 281, rfl⟩
abbrev main_c_42 : Ref sig .tc := ⟨.hbm, 282, rfl⟩
abbrev main_call7_v0 : Ref sig .tc := ⟨.hbm, 283, rfl⟩
abbrev main_call7_v1 : Ref sig .tc := ⟨.hbm, 284, rfl⟩
abbrev main_call7_v2 : Ref sig .tc := ⟨.hbm, 285, rfl⟩
abbrev main_call7_v3 : Ref sig .tc := ⟨.hbm, 286, rfl⟩
abbrev main_call7_v4 : Ref sig .tc := ⟨.hbm, 287, rfl⟩
abbrev main_v204 : Ref sig .tc := ⟨.hbm, 288, rfl⟩
abbrev main_c_43 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_cst_44 : Ref sig .tc := ⟨.hbm, 293, rfl⟩
abbrev main_v208 : Ref sig .tc := ⟨.hbm, 294, rfl⟩
abbrev main_cst_45 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_cst_46 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_cst_47 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_c_48 : Ref sig .tc := ⟨.hbm, 309, rfl⟩
abbrev main_v220 : Ref sig .tc := ⟨.hbm, 310, rfl⟩
abbrev main_v221 : Ref sig .tc := ⟨.hbm, 311, rfl⟩
abbrev main_c_49 : Ref sig .tc := ⟨.hbm, 312, rfl⟩
abbrev main_v222 : Ref sig .tc := ⟨.hbm, 313, rfl⟩
abbrev main_v223 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_v227 : Ref sig .tc := ⟨.hbm, 318, rfl⟩
abbrev main_v228 : Ref sig .tc := ⟨.hbm, 319, rfl⟩
abbrev main_cst_50 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_cst_51 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_cst_52 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_v261 : Ref sig .tc := ⟨.hbm, 355, rfl⟩
abbrev main_v262 : Ref sig .tc := ⟨.hbm, 356, rfl⟩
abbrev main_v263 : Ref sig .tc := ⟨.hbm, 357, rfl⟩
abbrev main_v264 : Ref sig .tc := ⟨.hbm, 358, rfl⟩
abbrev main_v265 : Ref sig .tc := ⟨.hbm, 359, rfl⟩
abbrev main_v266 : Ref sig .tc := ⟨.hbm, 360, rfl⟩
abbrev main_call8_cst : Ref sig .tc := ⟨.hbm, 361, rfl⟩
abbrev main_call8_v0 : Ref sig .tc := ⟨.hbm, 362, rfl⟩
abbrev main_v267 : Ref sig .tc := ⟨.hbm, 363, rfl⟩
abbrev main_cst_53 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_cst_54 : Ref sig .tc := ⟨.hbm, 368, rfl⟩
abbrev main_v271 : Ref sig .tc := ⟨.hbm, 369, rfl⟩
abbrev main_v272 : Ref sig .tc := ⟨.hbm, 370, rfl⟩
abbrev main_v273 : Ref sig .tc := ⟨.hbm, 371, rfl⟩
abbrev main_v274 : Ref sig .tc := ⟨.hbm, 372, rfl⟩
abbrev main_v275 : Ref sig .tc := ⟨.hbm, 373, rfl⟩
abbrev main_v276 : Ref sig .tc := ⟨.hbm, 374, rfl⟩
abbrev main_v277 : Ref sig .tc := ⟨.hbm, 375, rfl⟩
abbrev main_v278 : Ref sig .tc := ⟨.hbm, 376, rfl⟩
abbrev main_cst_55 : Ref sig .tc := ⟨.hbm, 377, rfl⟩
abbrev main_v279 : Ref sig .tc := ⟨.hbm, 378, rfl⟩
abbrev main_v280 : Ref sig .tc := ⟨.hbm, 379, rfl⟩
abbrev main_cst_56 : Ref sig .tc := ⟨.hbm, 380, rfl⟩
abbrev main_v281 : Ref sig .tc := ⟨.hbm, 381, rfl⟩
abbrev main_v282 : Ref sig .tc := ⟨.hbm, 382, rfl⟩
abbrev main_v283 : Ref sig .tc := ⟨.hbm, 383, rfl⟩
abbrev main_v284 : Ref sig .tc := ⟨.hbm, 384, rfl⟩
abbrev main_v285 : Ref sig .tc := ⟨.hbm, 385, rfl⟩
abbrev main_v286 : Ref sig .tc := ⟨.hbm, 386, rfl⟩
abbrev main_cst_57 : Ref sig .tc := ⟨.hbm, 387, rfl⟩
abbrev main_v287 : Ref sig .tc := ⟨.hbm, 388, rfl⟩
abbrev main_v288 : Ref sig .tc := ⟨.hbm, 389, rfl⟩
abbrev main_v289 : Ref sig .tc := ⟨.hbm, 390, rfl⟩
abbrev main_c_58 : Ref sig .tc := ⟨.hbm, 391, rfl⟩
abbrev main_v290 : Ref sig .tc := ⟨.hbm, 392, rfl⟩

abbrev nD : Nat := 1
abbrev τ : Topo := Topo.v7x

variable {F : FTy → Type} [FloatOps F]
-- ==== Proof.Tail.lean ====
/-
  FROM POINTS TO CELLS. Between and after its kernel launches the pipeline works on whole arrays: it counts the points
  of each cell, averages them, puts nine features per point together, and averages each point's 32 output numbers over
  its cell. These steps are named here, and the kernel program's host operations are read as them.
-/
module

public import proofs.«01_k».proof.Proof.Gen.KernelIdeal.Launch
public import Idealize.ShloMosaic.Lib.StableHlo.RunClose
public import Idealize.ShloMosaic.Lib.Pointwise

@[expose] public section

set_option maxRecDepth 16384

noncomputable section

namespace Cert.Pillar

open Idealize.ShloMosaic Idealize.ShloMosaic.TcCoe Idealize.SL.Sem
open Cert.KernelIdeal Cert.KernelIdeal.Gen

/-! ## Changes of layout -/

/-- Points as rows, turned into points as columns. -/
def cols (x : FVec Ideal S262144x3 .f32) : FVec Ideal S3x262144 .f32 :=
  transpose S3x262144 [1, 0] x transposes_S262144x3_S3x262144_1_0

/-- Points as columns, turned into points as rows. -/
def rows (q : FVec Ideal S3x262144 .f32) : FVec Ideal S262144x3 .f32 :=
  transpose S262144x3 [1, 0] q transposes_S3x262144_S262144x3_1_0

/-- The single row of a 1 × 262144 array. -/
def flat (s : IVec S1x262144 32) : IVec S262144 32 := shapeCast S262144 s shapeCasts_S1x262144_S262144

/-- The bias as one row. -/
def biasRow (b : FVec Ideal S32 .f32) : FVec Ideal S1x32 .f32 := shapeCast S1x32 b shapeCasts_S32_S1x32

/-! ## Cells -/

/-- A column of cell numbers, as the scatters and the gather take it. -/
def column (s : IVec S262144 32) : IVec S262144x1 32 := broadcastInDim S262144x1 ![0] bcast_S262144_S262144x1_0 s

/-- How many points each cell has, from the points' cell numbers. -/
def counts (s : IVec S262144 32) : FVec Ideal S262144 .f32 :=
  Host.scatterAdd scatter_S262144_S262144x1_S262144_n_0_0_1
    (broadcastInDim S262144 ![] bcast_S_S262144 (constant S_ .f32 0x00000000#32)) (column s)
    (broadcastInDim S262144 ![] bcast_S_S262144 (constant S_ .f32 0x3F800000#32))

/-- What a cell's sum is divided by: its count, at least one, as a column; from the counts. -/
def divisor (k : FVec Ideal S262144 .f32) : FVec Ideal S262144x1 .f32 :=
  broadcastInDim S262144x1 ![0] bcast_S262144_S262144x1_0
    (maximumf k (broadcastInDim S262144 ![] bcast_S_S262144 (constant S_ .f32 0x3F800000#32)))

/-- The mean position of each cell's points. -/
def means (p : FVec Ideal S262144x3 .f32) (s : IVec S262144 32) : FVec Ideal S262144x3 .f32 :=
  Host.divf
    (Host.scatterAdd scatter_S262144x3_S262144x1_S262144x3_1_0_0_1
      (broadcastInDim S262144x3 ![] bcast_S_S262144x3 (constant S_ .f32 0x00000000#32)) (column s) p)
    (broadcastInDim S262144x3 ![0, 1] bcast_S262144x1_S262144x3_0_1 (divisor (counts s)))

/-- The cell numbers as indices: a negative one counts from the end. -/
def indices (s : IVec S262144 32) : IVec S262144 32 :=
  select (cmpi .slt s (broadcastInDim S262144 ![] bcast_S_S262144 (constantI S_ 32 0#32)))
    (addi s (broadcastInDim S262144 ![] bcast_S_S262144 (constantI S_ 32 262144#32))) s

/-- The nine features of every point: its position `p`, its distance from its cell's mean, and its distance `o` from
    its cell's centre. -/
def features (p : FVec Ideal S262144x3 .f32) (s : IVec S262144 32) (o : FVec Ideal S262144x3 .f32) :
    FVec Ideal S262144x9 .f32 :=
  concatenate S262144x9 1
    [⟨S262144x3, p⟩,
     ⟨S262144x3, subf p (Host.gather gather_S262144x3_S262144x1_S262144x3_1_0_n_n_0_1_13 (means p s) (column (indices s)))⟩,
     ⟨S262144x3, o⟩] concatenates_S262144x3_S262144x3_S262144x3_S262144x9_d1

/-- The mean of the points' 32 numbers `u` over each cell; `k` are the counts. -/
def cellMeans (s : IVec S262144 32) (k : FVec Ideal S262144 .f32) (u : FVec Ideal S262144x32 .f32) :
    FVec Ideal S262144x32 .f32 :=
  Host.divf
    (Host.scatterAdd scatter_S262144x32_S262144x1_S262144x32_1_0_0_1
      (broadcastInDim S262144x32 ![] bcast_S_S262144x32 (constant S_ .f32 0x00000000#32)) (column s) u)
    (broadcastInDim S262144x32 ![0, 1] bcast_S262144x1_S262144x32_0_1 (divisor k))

/-! ## Results -/

/-- Whether each cell has a point, from the counts. -/
def occupied (k : FVec Ideal S262144 .f32) : IVec S262144 1 :=
  cmpf .ogt k (broadcastInDim S262144 ![] bcast_S_S262144 (constant S_ .f32 0x00000000#32))

/-- Two frames' cell arrays, one after the other. -/
def stacked (u v : FVec Ideal S262144x32 .f32) : FVec Ideal S2x262144x32 .f32 :=
  concatenate S2x262144x32 0
    [⟨S1x262144x32, broadcastInDim S1x262144x32 ![1, 2] bcast_S262144x32_S1x262144x32_1_2 u⟩,
     ⟨S1x262144x32, broadcastInDim S1x262144x32 ![1, 2] bcast_S262144x32_S1x262144x32_1_2 v⟩]
    concatenates_S1x262144x32_S1x262144x32_S2x262144x32_d0

/-- Two frames' occupied cells as zeros and ones, one frame after the other, from the counts. -/
def occupancy (k l : FVec Ideal S262144 .f32) : IVec S2x262144 32 :=
  extui 32 (concatenate S2x262144 0
    [⟨S1x262144, broadcastInDim S1x262144 ![1] bcast_S262144_S1x262144_1 (occupied k)⟩,
     ⟨S1x262144, broadcastInDim S1x262144 ![1] bcast_S262144_S1x262144_1 (occupied l)⟩]
    concatenates_S1x262144_S1x262144_S2x262144_d0) natLt_1_32

/-- How many cells are occupied, from the counts. -/
def howMany (k : FVec Ideal S262144 .f32) : IVec S_ 32 :=
  Host.reduce IntOp.addi (extui 32 (occupied k) natLt_1_32) (constantI S_ 32 0#32) reducesTo_S262144_S_d0 h_S_

end Cert.Pillar
-- ==== Proof.Hosts.lean ====
/-
  THE HOST OPERATIONS READ. What each stretch of host operations of the kernel program leaves in the arrays the rest
  reads, as the steps of Tail.lean, from any contents `V` before it.
-/
module

public import proofs.«01_k».proof.Proof.Tail

@[expose] public section

set_option maxRecDepth 16384

noncomputable section

namespace Cert.Pillar

open Idealize.ShloMosaic Idealize.ShloMosaic.TcCoe Idealize.SL.Sem
open Cert.KernelIdeal Cert.KernelIdeal.Gen

variable (V : Valuation τ sig (Elt Ideal))

/-! ## Before the first launch -/

theorem host0_cols : StableHlo.after hostOps0 V (Proc.devRef .tc main_v1) = cols (V (Proc.devRef .tc main_arg0)) := by
  after_results; rfl

theorem host_bias : StableHlo.after hostOps0 V (Proc.devRef .tc main_v0) = biasRow (V (Proc.devRef .tc main_arg4)) := by
  after_results; rfl

/-! ## Frame 0 between its two launches -/

theorem host0_flat : StableHlo.after hostOps1 V (Proc.devRef .tc main_v2_1) = flat (V (Proc.devRef .tc main_call0_v0_1)) := by
  after_results; rfl

theorem host0_counts : StableHlo.after hostOps1_1 V (Proc.devRef .tc main_v7) = counts (V (Proc.devRef .tc main_v2_1)) := by
  after_results; rfl

theorem host0_features : StableHlo.after hostOps1_1 V (Proc.devRef .tc main_v25)
    = features (rows (V (Proc.devRef .tc main_v2_0))) (V (Proc.devRef .tc main_v2_1)) (rows (V (Proc.devRef .tc main_v2_2))) := by
  after_results; rfl

/-! ## Frame 0 after its second launch, and the next frame's points -/

theorem host0_means : StableHlo.after hostOps2 V (Proc.devRef .tc main_v34)
    = cellMeans (V (Proc.devRef .tc main_v2_1)) (V (Proc.devRef .tc main_v7)) (V (Proc.devRef .tc main_v26)) := by
  after_results; rfl

theorem host1_cols : StableHlo.after hostOps2 V (Proc.devRef .tc main_v35) = cols (V (Proc.devRef .tc main_arg1)) := by
  after_results; rfl

/-! ## Frame 1 between its two launches -/

theorem host1_flat : StableHlo.after hostOps3 V (Proc.devRef .tc main_v36_1) = flat (V (Proc.devRef .tc main_call2_v0_1)) := by
  after_results; rfl

theorem host1_counts : StableHlo.after hostOps3_1 V (Proc.devRef .tc main_v41) = counts (V (Proc.devRef .tc main_v36_1)) := by
  after_results; rfl

theorem host1_features : StableHlo.after hostOps3_1 V (Proc.devRef .tc main_v59)
    = features (rows (V (Proc.devRef .tc main_v36_0))) (V (Proc.devRef .tc main_v36_1)) (rows (V (Proc.devRef .tc main_v36_2))) := by
  after_results; rfl

/-! ## Frame 1 after its second launch, and the next frame's points -/

theorem host1_means : StableHlo.after hostOps4 V (Proc.devRef .tc main_v68)
    = cellMeans (V (Proc.devRef .tc main_v36_1)) (V (Proc.devRef .tc main_v41)) (V (Proc.devRef .tc main_v60)) := by
  after_results; rfl

theorem host2_cols : StableHlo.after hostOps4 V (Proc.devRef .tc main_v69) = cols (V (Proc.devRef .tc main_arg2)) := by
  after_results; rfl

/-! ## Frame 2 between its two launches -/

theorem host2_flat : StableHlo.after hostOps5 V (Proc.devRef .tc main_v70_1) = flat (V (Proc.devRef .tc main_call4_v0_1)) := by
  after_results; rfl

theorem host2_counts : StableHlo.after hostOps5_1 V (Proc.devRef .tc main_v75) = counts (V (Proc.devRef .tc main_v70_1)) := by
  after_results; rfl

theorem host2_features : StableHlo.after hostOps5_1 V (Proc.devRef .tc main_v93)
    = features (rows (V (Proc.devRef .tc main_v70_0))) (V (Proc.devRef .tc main_v70_1)) (rows (V (Proc.devRef .tc main_v70_2))) := by
  after_results; rfl

/-! ## The results -/

theorem host_stacked : StableHlo.after hostOps6 V (Proc.devRef .tc main_v97) = stacked (V (Proc.devRef .tc main_v34)) (V (Proc.devRef .tc main_v68)) := by
  after_results; rfl

theorem host_occupancy : StableHlo.after hostOps6 V (Proc.devRef .tc main_v105) = occupancy (V (Proc.devRef .tc main_v7)) (V (Proc.devRef .tc main_v41)) := by
  after_results; rfl

theorem host_howMany : StableHlo.after hostOps6 V (Proc.devRef .tc main_v109) = howMany (V (Proc.devRef .tc main_v75)) := by
  after_results; rfl

end Cert.Pillar
-- ==== Proof.Point.lean ====
/-
  WHAT ONE POINT BECOMES. A point comes in as three numbers, one per axis. Everything the pipeline computes from it
  before points are gathered into cells — its position, its cell, its cell's centre — is said here once, for one
  point, over the extended reals. The kernel and the reference are both compared with these functions.
-/
module

public import Idealize.ShloMosaic.Lib.Pointwise

@[expose] public section

set_option maxRecDepth 16384

noncomputable section

namespace Cert.Pillar

open Idealize.ShloMosaic Idealize.ShloMosaic.TcCoe Idealize.SL.Sem

/-- The lower end of axis `a`: −51.2 on the two horizontal axes, −3 on the vertical one (as f32 words). -/
def lo (a : Fin 3) : EReal :=
  if (a : ℕ) < 2 then Ideal.ofBits .f32 0xC24CCCCD#32 else Ideal.ofBits .f32 0xC0400000#32

/-- The length of axis `a`: 102.4 horizontally, 6 vertically. -/
def len (a : Fin 3) : EReal :=
  if (a : ℕ) < 2 then Ideal.ofBits .f32 0x42CCCCCD#32 else Ideal.ofBits .f32 0x40C00000#32

/-- The position of the point `p` on axis `a`. -/
def pos (p : Fin 3 → EReal) (a : Fin 3) : EReal := lo a + p a * len a

/-- The number of the cell the point falls in along a horizontal axis: the whole part of the distance from the lower
    end over the cell's width 0.2, clamped to 0 … 511. -/
def cell (p : Fin 3 → EReal) (a : Fin 3) : BitVec 32 :=
  IntOp.minsi 511#32 (IntOp.maxsi 0#32 (FloatOps.fptosi (F := Ideal) (φ := .f32) 32
    (Ideal.liftRound Int.floor (Ideal.div (pos p a - lo a) (Ideal.ofBits .f32 0x3E4CCCCD#32)))))

/-- The number of the point's cell in the 512 × 512 grid, row by row. -/
def cellNo (p : Fin 3 → EReal) : BitVec 32 := IntOp.addi (IntOp.muli (cell p 0) 512#32) (cell p 1)

/-- The centre, along a horizontal axis, of the cells numbered `z`. -/
def mid (z : BitVec 32) : EReal :=
  (FloatOps.sitofp (F := Ideal) .f32 z + Ideal.ofBits .f32 0x3F000000#32) * Ideal.ofBits .f32 0x3E4CCCCD#32
    + Ideal.ofBits .f32 0xC24CCCCD#32

/-- The centre of the point's cell on axis `a`; vertically the one layer of cells is centred at 0. -/
def centre (p : Fin 3 → EReal) (a : Fin 3) : EReal := if (a : ℕ) < 2 then mid (cell p a) else 0

/-- How far the point lies from its cell's centre. -/
def off (p : Fin 3 → EReal) (a : Fin 3) : EReal := pos p a - centre p a

/-! ## Three facts about constants

    The kernel writes the axis lengths and the vertical centre as numbers; the reference works them out. First the
    words as real numbers. -/

theorem word_51_2 : Ideal.ofBits .f32 0x424CCCCD#32 = ((13421773 / 262144 : ℝ) : EReal) := by
  simp [Ideal.ofBits, Ideal.ieee, -EReal.coe_mul]; norm_num

theorem word_neg_51_2 : Ideal.ofBits .f32 0xC24CCCCD#32 = ((-(13421773 / 262144) : ℝ) : EReal) := by
  simp [Ideal.ofBits, Ideal.ieee, -EReal.coe_mul]; norm_num

theorem word_102_4 : Ideal.ofBits .f32 0x42CCCCCD#32 = ((13421773 / 131072 : ℝ) : EReal) := by
  simp [Ideal.ofBits, Ideal.ieee, -EReal.coe_mul]; norm_num

theorem word_3 : Ideal.ofBits .f32 0x40400000#32 = ((3 : ℝ) : EReal) := by
  simp [Ideal.ofBits, Ideal.ieee, -EReal.coe_mul]; norm_num

theorem word_neg_3 : Ideal.ofBits .f32 0xC0400000#32 = ((-3 : ℝ) : EReal) := by
  simp [Ideal.ofBits, Ideal.ieee, -EReal.coe_mul]; norm_num

theorem word_6 : Ideal.ofBits .f32 0x40C00000#32 = ((6 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

/-- 51.2 − (−51.2) is 102.4: doubling a float is exact. -/
theorem width_eq : Ideal.ofBits .f32 0x424CCCCD#32 - Ideal.ofBits .f32 0xC24CCCCD#32 = Ideal.ofBits .f32 0x42CCCCCD#32 := by
  rw [word_51_2, word_neg_51_2, word_102_4, ← EReal.coe_sub]
  norm_num

/-- 3 − (−3) is 6. -/
theorem height_eq : Ideal.ofBits .f32 0x40400000#32 - Ideal.ofBits .f32 0xC0400000#32 = Ideal.ofBits .f32 0x40C00000#32 := by
  rw [word_3, word_neg_3, word_6, ← EReal.coe_sub]
  norm_num

/-- Half of 6, minus 3, is 0. -/
theorem middle_eq : Ideal.ofBits .f32 0x3F000000#32 * Ideal.ofBits .f32 0x40C00000#32 + Ideal.ofBits .f32 0xC0400000#32 = 0 := by
  rw [word_half, word_6, word_neg_3, ← EReal.coe_mul, ← EReal.coe_add]
  norm_num

end Cert.Pillar
-- ==== Proof.BlockA.lean ====
/-
  STAGE A ON ONE BLOCK. The body of the first kernel function works on a block of 2048 points laid out as 3 × 2048,
  one row per axis. Read at one point (one column), each vector it stores is the point's function of Point.lean.
-/
module

public import proofs.«01_k».proof.Proof.Point
public import proofs.«01_k».proof.Proof.Gen.KernelIdeal.Skeleton

@[expose] public section

set_option maxRecDepth 16384

noncomputable section

namespace Cert.Pillar

open Idealize.ShloMosaic Idealize.ShloMosaic.TcCoe Idealize.SL.Sem
open Cert.KernelIdeal Cert.KernelIdeal.Gen

/-- The first stored vector holds the positions. -/
theorem blockA_pos (x : FVec Ideal S3x2048 .f32) (a : Fin 3) (n : Fin 2048) :
    k0_pay6 (F := Ideal) x (ix2 a n) = pos (fun a => x (ix2 a n)) a := by
  pointwise [k0_pay6, k0_pay5, k0_pay4, k0_pay3, pos, lo, len]
  fin_cases a <;> rfl

/-- The cell along the first axis. -/
theorem blockA_cell0 (x : FVec Ideal S3x2048 .f32) (n : Fin 2048) :
    k0_pay7 (F := Ideal) x (ix2 0 n) = cell (fun a => x (ix2 a n)) 0 := by
  pointwise [k0_pay7, k0_pay4, k0_pay3, pos, lo, len, cell]

/-- The cell along the second axis. -/
theorem blockA_cell1 (x : FVec Ideal S3x2048 .f32) (n : Fin 2048) :
    k0_pay8 (F := Ideal) x (ix2 0 n) = cell (fun a => x (ix2 a n)) 1 := by
  pointwise [k0_pay8, k0_pay5, k0_pay3, pos, lo, len, cell]

/-- The second stored vector holds the cell numbers. -/
theorem blockA_cellNo (x : FVec Ideal S3x2048 .f32) (n : Fin 2048) :
    k0_pay1 (k0_pay7 (F := Ideal) x) (k0_pay8 (F := Ideal) x) 512#32 (ix2 0 n) = cellNo (fun a => x (ix2 a n)) := by
  pointwise [k0_pay1, cellNo, blockA_cell0, blockA_cell1]

/-- The third stored vector holds the distances from the cells' centres: from any vectors holding the positions and
    the two cells. -/
theorem blockA_off_of (u : FVec Ideal S3x2048 .f32) (v w : IVec S1x2048 32) (p : Fin 3 → EReal) (n : Fin 2048)
    (hu : ∀ a : Fin 3, u (ix2 a n) = pos p a) (hv : v (ix2 0 n) = cell p 0) (hw : w (ix2 0 n) = cell p 1) (a : Fin 3) :
    k0_pay2 (F := Ideal) u v w (ix2 a n) = off p a := by
  pointwise [k0_pay2]
  refine congrArg₂ (· - ·) (hu a) ?_
  fin_cases a
  · exact congrArg mid hv
  · exact congrArg mid hw
  · rfl

/-- The same, of the block itself. -/
theorem blockA_off (x : FVec Ideal S3x2048 .f32) (a : Fin 3) (n : Fin 2048) :
    k0_pay2 (F := Ideal) (k0_pay6 (F := Ideal) x) (k0_pay7 (F := Ideal) x) (k0_pay8 (F := Ideal) x) (ix2 a n) = off (fun a => x (ix2 a n)) a :=
  blockA_off_of _ _ _ _ n (fun a => blockA_pos x a n) (blockA_cell0 x n) (blockA_cell1 x n) a

/-! ## From a block to the whole array -/

/-- The positions of all points, laid out as 3 × 262144. -/
def posT (q : FVec Ideal S3x262144 .f32) : FVec Ideal S3x262144 .f32 := fun i => pos (fun a => q (ix2 a (i 1))) (i 0)

/-- The cell numbers of all points, laid out as 1 × 262144. -/
def cellNoT (q : FVec Ideal S3x262144 .f32) : IVec S1x262144 32 := fun i => cellNo fun a => q (ix2 a (i 1))

/-- The distances of all points from their cells' centres, laid out as 3 × 262144. -/
def offT (q : FVec Ideal S3x262144 .f32) : FVec Ideal S3x262144 .f32 := fun i => off (fun a => q (ix2 a (i 1))) (i 0)

/-- The array's column that is column `n` of block `t`. -/
def col (t : Fin 128) (n : Fin 2048) : Fin 262144 := ⟨t.val * 2048 + n.val, by omega⟩

/-- `x` holds the columns of block `t` of `q`. -/
def IsBlock (x : FVec Ideal S3x2048 .f32) (q : FVec Ideal S3x262144 .f32) (t : Fin 128) : Prop :=
  ∀ (a : Fin 3) (n : Fin 2048), x (ix2 a n) = q (ix2 a (col t n))

variable {x : FVec Ideal S3x2048 .f32} {q : FVec Ideal S3x262144 .f32} {t : Fin 128}

/-- A block's columns are the array's. -/
theorem IsBlock.column (h : IsBlock x q t) (n : Fin 2048) : (fun a : Fin 3 => x (ix2 a n)) = fun a => q (ix2 a (col t n)) :=
  funext fun a => h a n

theorem IsBlock.pos (h : IsBlock x q t) (y : S3x2048.Idx) :
    k0_pay6 (F := Ideal) x y = posT q (ix2 (y 0) (col t (y 1))) := by
  obtain ⟨a, n, rfl⟩ : ∃ (a : Fin 3) (n : Fin 2048), y = ix2 a n := ⟨y 0, y 1, eq_ix2 y⟩
  exact (blockA_pos x a n).trans (congrArg (Pillar.pos · a) (h.column n))

theorem IsBlock.cellNo (h : IsBlock x q t) (y : S1x2048.Idx) :
    k0_pay1 (k0_pay7 (F := Ideal) x) (k0_pay8 (F := Ideal) x) 512#32 y = cellNoT q (ix2 (y 0) (col t (y 1))) := by
  obtain ⟨a, n, rfl⟩ : ∃ (a : Fin 1) (n : Fin 2048), y = ix2 a n := ⟨y 0, y 1, eq_ix2 y⟩
  obtain rfl : a = 0 := Subsingleton.elim a 0
  exact (blockA_cellNo x n).trans (congrArg Pillar.cellNo (h.column n))

theorem IsBlock.off (h : IsBlock x q t) (y : S3x2048.Idx) :
    k0_pay2 (F := Ideal) (k0_pay6 (F := Ideal) x) (k0_pay7 (F := Ideal) x) (k0_pay8 (F := Ideal) x) y
      = offT q (ix2 (y 0) (col t (y 1))) := by
  obtain ⟨a, n, rfl⟩ : ∃ (a : Fin 3) (n : Fin 2048), y = ix2 a n := ⟨y 0, y 1, eq_ix2 y⟩
  exact (blockA_off x a n).trans (congrArg (Pillar.off · a) (h.column n))

end Cert.Pillar
-- ==== Proof.RegionsA.lean ====
/-
  STAGE A'S ARRAYS. The first kernel function is launched three times, once per frame. Each launch leaves in its three
  output arrays the positions, the cell numbers and the distances from the cells' centres of all the frame's points:
  every block is filled at its own grid point, and the blocks cover the array.
-/
module

public import Idealize.ShloMosaic.Lib.Pipeline.ValueKit
public import proofs.«01_k».proof.Proof.BlockA
public import proofs.«01_k».proof.Proof.Gen.KernelIdeal.Frame

@[expose] public section

set_option maxRecDepth 16384

noncomputable section

namespace Cert.Pillar

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)

/-! ## The two cells as the launch names them

    The launch reads the block through a rectangle that is all of it. -/

theorem cellX_eq (x : FVec Ideal S3x2048 .f32) : k0_pay9 (F := Ideal) x = k0_pay7 (F := Ideal) x := by
  unfold k0_pay9
  congr 1
  funext i
  pointwise

theorem cellY_eq (x : FVec Ideal S3x2048 .f32) : k0_pay10 (F := Ideal) x = k0_pay8 (F := Ideal) x := by
  unfold k0_pay10
  congr 1
  funext i
  pointwise

variable {x : FVec Ideal S3x2048 .f32} {q : FVec Ideal S3x262144 .f32} {t : Fin 128}

theorem IsBlock.stored_cellNo (h : IsBlock x q t) (y : S1x2048.Idx) :
    k0_pay1 (k0_pay9 (F := Ideal) x) (k0_pay10 (F := Ideal) x) 512#32 y = cellNoT q (ix2 (y 0) (col t (y 1))) := by
  rw [cellX_eq, cellY_eq]; exact h.cellNo y

theorem IsBlock.stored_off (h : IsBlock x q t) (y : S3x2048.Idx) :
    k0_pay2 (F := Ideal) (k0_pay6 (F := Ideal) x) (k0_pay9 (F := Ideal) x) (k0_pay10 (F := Ideal) x) y
      = offT q (ix2 (y 0) (col t (y 1))) := by
  rw [cellX_eq, cellY_eq]; exact h.off y

/-! ## Region 0 -/

theorem idx0 : ∀ t : Fin cfg0.N, win0_0.index t = ![0, t.val] ∧ win0_1.index t = ![0, t.val]
    ∧ win0_2.index t = ![0, t.val] ∧ win0_3.index t = ![0, t.val] := (by decide +kernel : ∀ t : Fin grid0.N, _)

/-- The block point `t` works on. -/
theorem isBlock0 (t : Fin cfg0.N) : IsBlock (iblk0 V c 0 t) (V c main_v1) t := fun a n => by
  unfold col
  blk_point [iblk0, idx0 t]

theorem pos0 : (dat0 V c).arrAt 1 cfg0.N = posT (V c main_v1) := by
  refine (dat0 V c).arrAt_eq_of_covers 1 _ (by decide +kernel) fun t _ y => ?_
  blk_simp; rw [after0_1]; frame_out
  refine ((isBlock0 V c t).pos y).trans (congrArg (posT (V c main_v1)) ?_)
  unfold col; blk_ext [idx0 t]

theorem cellNo0 : (dat0 V c).arrAt 2 cfg0.N = cellNoT (V c main_v1) := by
  refine (dat0 V c).arrAt_eq_of_covers 2 _ (by decide +kernel) fun t _ y => ?_
  blk_simp; rw [after0_2]; frame_out
  refine ((isBlock0 V c t).stored_cellNo y).trans (congrArg (cellNoT (V c main_v1)) ?_)
  unfold col; blk_ext [idx0 t]

theorem off0 : (dat0 V c).arrAt 3 cfg0.N = offT (V c main_v1) := by
  refine (dat0 V c).arrAt_eq_of_covers 3 _ (by decide +kernel) fun t _ y => ?_
  blk_simp; rw [after0_3]; frame_out
  refine ((isBlock0 V c t).stored_off y).trans (congrArg (offT (V c main_v1)) ?_)
  unfold col; blk_ext [idx0 t]

/-! ## Region 2 -/

theorem idx2 : ∀ t : Fin cfg2.N, win2_0.index t = ![0, t.val] ∧ win2_1.index t = ![0, t.val]
    ∧ win2_2.index t = ![0, t.val] ∧ win2_3.index t = ![0, t.val] := (by decide +kernel : ∀ t : Fin grid2.N, _)

/-- The block point `t` works on. -/
theorem isBlock2 (t : Fin cfg2.N) : IsBlock (iblk2 V c 0 t) (V c main_v35) t := fun a n => by
  unfold col
  blk_point [iblk2, idx2 t]

theorem pos2 : (dat2 V c).arrAt 1 cfg2.N = posT (V c main_v35) := by
  refine (dat2 V c).arrAt_eq_of_covers 1 _ (by decide +kernel) fun t _ y => ?_
  blk_simp; rw [after2_1]; frame_out
  refine ((isBlock2 V c t).pos y).trans (congrArg (posT (V c main_v35)) ?_)
  unfold col; blk_ext [idx2 t]

theorem cellNo2 : (dat2 V c).arrAt 2 cfg2.N = cellNoT (V c main_v35) := by
  refine (dat2 V c).arrAt_eq_of_covers 2 _ (by decide +kernel) fun t _ y => ?_
  blk_simp; rw [after2_2]; frame_out
  refine ((isBlock2 V c t).stored_cellNo y).trans (congrArg (cellNoT (V c main_v35)) ?_)
  unfold col; blk_ext [idx2 t]

theorem off2 : (dat2 V c).arrAt 3 cfg2.N = offT (V c main_v35) := by
  refine (dat2 V c).arrAt_eq_of_covers 3 _ (by decide +kernel) fun t _ y => ?_
  blk_simp; rw [after2_3]; frame_out
  refine ((isBlock2 V c t).stored_off y).trans (congrArg (offT (V c main_v35)) ?_)
  unfold col; blk_ext [idx2 t]

/-! ## Region 4 -/

theorem idx4 : ∀ t : Fin cfg4.N, win4_0.index t = ![0, t.val] ∧ win4_1.index t = ![0, t.val]
    ∧ win4_2.index t = ![0, t.val] ∧ win4_3.index t = ![0, t.val] := (by decide +kernel : ∀ t : Fin grid4.N, _)

/-- The block point `t` works on. -/
theorem isBlock4 (t : Fin cfg4.N) : IsBlock (iblk4 V c 0 t) (V c main_v69) t := fun a n => by
  unfold col
  blk_point [iblk4, idx4 t]

theorem pos4 : (dat4 V c).arrAt 1 cfg4.N = posT (V c main_v69) := by
  refine (dat4 V c).arrAt_eq_of_covers 1 _ (by decide +kernel) fun t _ y => ?_
  blk_simp; rw [after4_1]; frame_out
  refine ((isBlock4 V c t).pos y).trans (congrArg (posT (V c main_v69)) ?_)
  unfold col; blk_ext [idx4 t]

theorem cellNo4 : (dat4 V c).arrAt 2 cfg4.N = cellNoT (V c main_v69) := by
  refine (dat4 V c).arrAt_eq_of_covers 2 _ (by decide +kernel) fun t _ y => ?_
  blk_simp; rw [after4_2]; frame_out
  refine ((isBlock4 V c t).stored_cellNo y).trans (congrArg (cellNoT (V c main_v69)) ?_)
  unfold col; blk_ext [idx4 t]

theorem off4 : (dat4 V c).arrAt 3 cfg4.N = offT (V c main_v69) := by
  refine (dat4 V c).arrAt_eq_of_covers 3 _ (by decide +kernel) fun t _ y => ?_
  blk_simp; rw [after4_3]; frame_out
  refine ((isBlock4 V c t).stored_off y).trans (congrArg (offT (V c main_v69)) ?_)
  unfold col; blk_ext [idx4 t]

end Cert.Pillar
-- ==== Proof.StageB.lean ====
/-
  STAGE B'S ARRAYS. The second kernel function is launched three times, once per frame. Each launch leaves in its
  output array, for every point, 32 numbers: the point's nine features times a 9 × 32 matrix, plus a bias, cut off
  below at zero.
-/
module

public import Idealize.ShloMosaic.Lib.Pipeline.ValueKit
public import Idealize.ShloMosaic.Lib.Pointwise
public import proofs.«01_k».proof.Proof.Gen.KernelIdeal.Frame

@[expose] public section

set_option maxRecDepth 16384

noncomputable section

namespace Cert.Pillar

open Idealize.ShloMosaic Idealize.ShloMosaic.TcCoe Idealize.SL.Sem
open Cert.KernelIdeal Cert.KernelIdeal.Gen

/-- One output number: features times weights, plus the bias, at least zero. -/
def unit (f w : Fin 9 → EReal) (b : EReal) : EReal := max ((∑ k : Fin 9, f k * w k) + b) 0

/-- The output numbers of all points, from their features, the matrix and the bias (as one row). -/
def units (f : FVec Ideal S262144x9 .f32) (w : FVec Ideal S9x32 .f32) (b : FVec Ideal S1x32 .f32) :
    FVec Ideal S262144x32 .f32 :=
  fun i => unit (fun k => f (ix2 (i 0) k)) (fun k => w (ix2 k (i 1))) (b (ix2 0 (i 1)))

/-- What the body stores from its block of 2048 points, read at one point and one output. -/
theorem blockB (x : FVec Ideal S2048x9 .f32) (w : FVec Ideal S9x32 .f32) (b : FVec Ideal S1x32 .f32) (n : Fin 2048) (o : Fin 32) :
    k1_pay1 (F := Ideal) x w b (ix2 n o) = unit (fun k => x (ix2 n k)) (fun k => w (ix2 k o)) (b (ix2 0 o)) := by
  pointwise [k1_pay1, unit]

/-- The array's row that is row `n` of block `t`. -/
def row (t : Fin 128) (n : Fin 2048) : Fin 262144 := ⟨t.val * 2048 + n.val, by omega⟩

/-- What the body stores is the block's part of the array, when it reads its rows of the features and the whole matrix
    and bias. -/
theorem blockB_units {x : FVec Ideal S2048x9 .f32} {w w' : FVec Ideal S9x32 .f32} {b b' : FVec Ideal S1x32 .f32}
    {f : FVec Ideal S262144x9 .f32} {t : Fin 128} (hx : ∀ (n : Fin 2048) (k : Fin 9), x (ix2 n k) = f (ix2 (row t n) k))
    (hw : w = w') (hb : b = b') (y : S2048x32.Idx) :
    k1_pay1 (F := Ideal) x w b y = units f w' b' (ix2 (row t (y 0)) (y 1)) := by
  subst hw hb
  obtain ⟨n, o, rfl⟩ : ∃ (n : Fin 2048) (o : Fin 32), y = ix2 n o := ⟨y 0, y 1, eq_ix2 y⟩
  exact (blockB x w b n o).trans (congrArg (unit · (fun k => w (ix2 k o)) (b (ix2 0 o))) (funext fun k => hx n k))

variable (V : (c : Dev nD) → (b : Ref sig .tc) → Buf (Elt Ideal) ((c : Thread nD τ).loc b)) (c : Dev nD)

/-! ## Region 1 -/

theorem idx1 : ∀ t : Fin cfg1.N, win1_0.index t = ![t.val, 0] ∧ win1_1.index t = ![0, 0] ∧ win1_2.index t = ![0, 0]
    ∧ win1_3.index t = ![t.val, 0] := (by decide +kernel : ∀ t : Fin grid1.N, _)

theorem units1 : (dat1 V c).arrAt 3 cfg1.N = units (V c main_v25) (V c main_arg3) (V c main_v0) := by
  refine (dat1 V c).arrAt_eq_of_covers 3 _ (by decide +kernel) fun t _ y => ?_
  blk_simp; rw [after1_3]; frame_out
  refine (blockB_units (f := V c main_v25) (t := t) (w' := V c main_arg3) (b' := V c main_v0) (fun n k => ?_) ?_ ?_ y).trans
    (congrArg (units (V c main_v25) (V c main_arg3) (V c main_v0)) ?_)
  · unfold row; blk_point [iblk1, idx1 t]
  · blk_ext! [iblk1, idx1 t]
  · blk_ext! [iblk1, idx1 t]
  · unfold row; blk_ext [idx1 t]

/-! ## Region 3 -/

theorem idx3 : ∀ t : Fin cfg3.N, win3_0.index t = ![t.val, 0] ∧ win3_1.index t = ![0, 0] ∧ win3_2.index t = ![0, 0]
    ∧ win3_3.index t = ![t.val, 0] := (by decide +kernel : ∀ t : Fin grid3.N, _)

theorem units3 : (dat3 V c).arrAt 3 cfg3.N = units (V c main_v59) (V c main_arg3) (V c main_v0) := by
  refine (dat3 V c).arrAt_eq_of_covers 3 _ (by decide +kernel) fun t _ y => ?_
  blk_simp; rw [after3_3]; frame_out
  refine (blockB_units (f := V c main_v59) (t := t) (w' := V c main_arg3) (b' := V c main_v0) (fun n k => ?_) ?_ ?_ y).trans
    (congrArg (units (V c main_v59) (V c main_arg3) (V c main_v0)) ?_)
  · unfold row; blk_point [iblk3, idx3 t]
  · blk_ext! [iblk3, idx3 t]
  · blk_ext! [iblk3, idx3 t]
  · unfold row; blk_ext [idx3 t]

/-! ## Region 5 -/

theorem idx5 : ∀ t : Fin cfg5.N, win5_0.index t = ![t.val, 0] ∧ win5_1.index t = ![0, 0] ∧ win5_2.index t = ![0, 0]
    ∧ win5_3.index t = ![t.val, 0] := (by decide +kernel : ∀ t : Fin grid5.N, _)

theorem units5 : (dat5 V c).arrAt 3 cfg5.N = units (V c main_v93) (V c main_arg3) (V c main_v0) := by
  refine (dat5 V c).arrAt_eq_of_covers 3 _ (by decide +kernel) fun t _ y => ?_
  blk_simp; rw [after5_3]; frame_out
  refine (blockB_units (f := V c main_v93) (t := t) (w' := V c main_arg3) (b' := V c main_v0) (fun n k => ?_) ?_ ?_ y).trans
    (congrArg (units (V c main_v93) (V c main_arg3) (V c main_v0)) ?_)
  · unfold row; blk_point [iblk5, idx5 t]
  · blk_ext! [iblk5, idx5 t]
  · blk_ext! [iblk5, idx5 t]
  · unfold row; blk_ext [idx5 t]

end Cert.Pillar
-- ==== Proof.Fold.lean ====
/-
  THE KERNEL PROGRAM'S RESULTS. The contents of the arrays are followed through the program: host operations, then a
  launch, then host operations, six launches in all. Each frame's cell numbers, counts, features and output numbers are
  functions of that frame's points (and the matrix and the bias), and so are the four results.
-/
module

public import proofs.«01_k».proof.Proof.Hosts
public import proofs.«01_k».proof.Proof.RegionsA
public import proofs.«01_k».proof.Proof.StageB

@[expose] public section

set_option maxRecDepth 16384

noncomputable section

namespace Cert.Pillar

open Idealize.ShloMosaic Idealize.ShloMosaic.TcCoe Idealize.SL.Sem
open Cert.KernelIdeal Cert.KernelIdeal.Gen

/-! ## One frame, as a function of its points -/

/-- The points' cell numbers. -/
def frameCellNo (x : FVec Ideal S262144x3 .f32) : IVec S262144 32 := flat (cellNoT (cols x))

/-- The points' features. -/
def frameFeatures (x : FVec Ideal S262144x3 .f32) : FVec Ideal S262144x9 .f32 :=
  features (rows (posT (cols x))) (frameCellNo x) (rows (offT (cols x)))

/-- The cells' counts. -/
def frameCounts (x : FVec Ideal S262144x3 .f32) : FVec Ideal S262144 .f32 := counts (frameCellNo x)

/-- The points' output numbers. -/
def frameUnits (x : FVec Ideal S262144x3 .f32) (w : FVec Ideal S9x32 .f32) (b : FVec Ideal S32 .f32) :
    FVec Ideal S262144x32 .f32 := units (frameFeatures x) w (biasRow b)

/-- The cells' output numbers. -/
def frameCells (x : FVec Ideal S262144x3 .f32) (w : FVec Ideal S9x32 .f32) (b : FVec Ideal S32 .f32) :
    FVec Ideal S262144x32 .f32 := cellMeans (frameCellNo x) (frameCounts x) (frameUnits x w b)

variable (m : (ℓ : Loc nD τ sig) → Buf (Elt Ideal) ℓ) (ρ : Dev nD → PrngReg) (c : Dev nD)

/-! ## The bias, made one row before the first launch and kept -/

theorem bias4 : W4 m ρ c (Proc.devRef .tc main_v0) = biasRow (m ((c.tc : Thread nD τ).loc main_arg4)) :=
  (W4_of m ρ c main_v0 (by decide)).trans ((W3_of m ρ c main_v0 (by decide)).trans ((W2_of m ρ c main_v0 (by decide)).trans (host_bias (W0 m ρ c))))

theorem bias9 : W9 m ρ c (Proc.devRef .tc main_v0) = biasRow (m ((c.tc : Thread nD τ).loc main_arg4)) :=
  (W9_of m ρ c main_v0 (by decide)).trans ((W8_of m ρ c main_v0 (by decide)).trans ((W7_of m ρ c main_v0 (by decide)).trans ((W6_of m ρ c main_v0 (by decide)).trans ((W5_of m ρ c main_v0 (by decide)).trans (bias4 m ρ c)))))

theorem bias14 : W14 m ρ c (Proc.devRef .tc main_v0) = biasRow (m ((c.tc : Thread nD τ).loc main_arg4)) :=
  (W14_of m ρ c main_v0 (by decide)).trans ((W13_of m ρ c main_v0 (by decide)).trans ((W12_of m ρ c main_v0 (by decide)).trans ((W11_of m ρ c main_v0 (by decide)).trans ((W10_of m ρ c main_v0 (by decide)).trans (bias9 m ρ c)))))

/-! ## Frame 0 -/

theorem cols0 : W1 m ρ c (Proc.devRef .tc main_v1) = cols (m ((c.tc : Thread nD τ).loc main_arg0)) :=
  host0_cols (W0 m ρ c)

theorem posT0 : W2 m ρ c (Proc.devRef .tc main_v2_0) = posT (cols (m ((c.tc : Thread nD τ).loc main_arg0))) :=
  (W2_arr m ρ c 1).trans ((pos0 (V1 m ρ) c).trans (congrArg posT (cols0 m ρ c)))

theorem cellNoT0 : W2 m ρ c (Proc.devRef .tc main_call0_v0_1) = cellNoT (cols (m ((c.tc : Thread nD τ).loc main_arg0))) :=
  (W2_arr m ρ c 2).trans ((cellNo0 (V1 m ρ) c).trans (congrArg cellNoT (cols0 m ρ c)))

theorem offT0 : W2 m ρ c (Proc.devRef .tc main_v2_2) = offT (cols (m ((c.tc : Thread nD τ).loc main_arg0))) :=
  (W2_arr m ρ c 3).trans ((off0 (V1 m ρ) c).trans (congrArg offT (cols0 m ρ c)))

theorem frameCellNo0 : W3 m ρ c (Proc.devRef .tc main_v2_1) = frameCellNo (m ((c.tc : Thread nD τ).loc main_arg0)) :=
  (host0_flat (W2 m ρ c)).trans (congrArg flat (cellNoT0 m ρ c))

theorem frameCounts0 : W4 m ρ c (Proc.devRef .tc main_v7) = frameCounts (m ((c.tc : Thread nD τ).loc main_arg0)) :=
  (host0_counts (W3 m ρ c)).trans (congrArg counts (frameCellNo0 m ρ c))

theorem frameFeatures0 : W4 m ρ c (Proc.devRef .tc main_v25) = frameFeatures (m ((c.tc : Thread nD τ).loc main_arg0)) := by
  refine (host0_features (W3 m ρ c)).trans ?_
  rw [W3_of m ρ c main_v2_0 (by decide), W3_of m ρ c main_v2_2 (by decide), posT0, offT0, frameCellNo0]
  rfl

theorem frameUnits0 : W5 m ρ c (Proc.devRef .tc main_v26) = frameUnits (m ((c.tc : Thread nD τ).loc main_arg0)) (m ((c.tc : Thread nD τ).loc main_arg3)) (m ((c.tc : Thread nD τ).loc main_arg4)) := by
  refine (W5_arr m ρ c 3).trans ((units1 (V4 m ρ) c).trans ?_)
  rw [show V4 m ρ c main_v25 = _ from frameFeatures0 m ρ c, show V4 m ρ c main_arg3 = _ from W4_args m ρ c main_arg3 (by decide),
    show V4 m ρ c main_v0 = _ from bias4 m ρ c]
  rfl

theorem frameCells0 : W6 m ρ c (Proc.devRef .tc main_v34) = frameCells (m ((c.tc : Thread nD τ).loc main_arg0)) (m ((c.tc : Thread nD τ).loc main_arg3)) (m ((c.tc : Thread nD τ).loc main_arg4)) := by
  refine (host0_means (W5 m ρ c)).trans ?_
  rw [W5_of m ρ c main_v2_1 (by decide), W4_of m ρ c main_v2_1 (by decide), W5_of m ρ c main_v7 (by decide), frameCellNo0, frameCounts0,
    frameUnits0]
  rfl

/-! ## Frame 1 -/

theorem cols1 : W6 m ρ c (Proc.devRef .tc main_v35) = cols (m ((c.tc : Thread nD τ).loc main_arg1)) :=
  (host1_cols (W5 m ρ c)).trans (congrArg cols (W5_args m ρ c main_arg1 (by decide)))

theorem posT1 : W7 m ρ c (Proc.devRef .tc main_v36_0) = posT (cols (m ((c.tc : Thread nD τ).loc main_arg1))) :=
  (W7_arr m ρ c 1).trans ((pos2 (V6 m ρ) c).trans (congrArg posT (cols1 m ρ c)))

theorem cellNoT1 : W7 m ρ c (Proc.devRef .tc main_call2_v0_1) = cellNoT (cols (m ((c.tc : Thread nD τ).loc main_arg1))) :=
  (W7_arr m ρ c 2).trans ((cellNo2 (V6 m ρ) c).trans (congrArg cellNoT (cols1 m ρ c)))

theorem offT1 : W7 m ρ c (Proc.devRef .tc main_v36_2) = offT (cols (m ((c.tc : Thread nD τ).loc main_arg1))) :=
  (W7_arr m ρ c 3).trans ((off2 (V6 m ρ) c).trans (congrArg offT (cols1 m ρ c)))

theorem frameCellNo1 : W8 m ρ c (Proc.devRef .tc main_v36_1) = frameCellNo (m ((c.tc : Thread nD τ).loc main_arg1)) :=
  (host1_flat (W7 m ρ c)).trans (congrArg flat (cellNoT1 m ρ c))

theorem frameCounts1 : W9 m ρ c (Proc.devRef .tc main_v41) = frameCounts (m ((c.tc : Thread nD τ).loc main_arg1)) :=
  (host1_counts (W8 m ρ c)).trans (congrArg counts (frameCellNo1 m ρ c))

theorem frameFeatures1 : W9 m ρ c (Proc.devRef .tc main_v59) = frameFeatures (m ((c.tc : Thread nD τ).loc main_arg1)) := by
  refine (host1_features (W8 m ρ c)).trans ?_
  rw [W8_of m ρ c main_v36_0 (by decide), W8_of m ρ c main_v36_2 (by decide), posT1, offT1, frameCellNo1]
  rfl

theorem frameUnits1 : W10 m ρ c (Proc.devRef .tc main_v60) = frameUnits (m ((c.tc : Thread nD τ).loc main_arg1)) (m ((c.tc : Thread nD τ).loc main_arg3)) (m ((c.tc : Thread nD τ).loc main_arg4)) := by
  refine (W10_arr m ρ c 3).trans ((units3 (V9 m ρ) c).trans ?_)
  rw [show V9 m ρ c main_v59 = _ from frameFeatures1 m ρ c, show V9 m ρ c main_arg3 = _ from W9_args m ρ c main_arg3 (by decide),
    show V9 m ρ c main_v0 = _ from bias9 m ρ c]
  rfl

theorem frameCells1 : W11 m ρ c (Proc.devRef .tc main_v68) = frameCells (m ((c.tc : Thread nD τ).loc main_arg1)) (m ((c.tc : Thread nD τ).loc main_arg3)) (m ((c.tc : Thread nD τ).loc main_arg4)) := by
  refine (host1_means (W10 m ρ c)).trans ?_
  rw [W10_of m ρ c main_v36_1 (by decide), W9_of m ρ c main_v36_1 (by decide), W10_of m ρ c main_v41 (by decide), frameCellNo1, frameCounts1,
    frameUnits1]
  rfl

/-! ## Frame 2 -/

theorem cols2 : W11 m ρ c (Proc.devRef .tc main_v69) = cols (m ((c.tc : Thread nD τ).loc main_arg2)) :=
  (host2_cols (W10 m ρ c)).trans (congrArg cols (W10_args m ρ c main_arg2 (by decide)))

theorem posT2 : W12 m ρ c (Proc.devRef .tc main_v70_0) = posT (cols (m ((c.tc : Thread nD τ).loc main_arg2))) :=
  (W12_arr m ρ c 1).trans ((pos4 (V11 m ρ) c).trans (congrArg posT (cols2 m ρ c)))

theorem cellNoT2 : W12 m ρ c (Proc.devRef .tc main_call4_v0_1) = cellNoT (cols (m ((c.tc : Thread nD τ).loc main_arg2))) :=
  (W12_arr m ρ c 2).trans ((cellNo4 (V11 m ρ) c).trans (congrArg cellNoT (cols2 m ρ c)))

theorem offT2 : W12 m ρ c (Proc.devRef .tc main_v70_2) = offT (cols (m ((c.tc : Thread nD τ).loc main_arg2))) :=
  (W12_arr m ρ c 3).trans ((off4 (V11 m ρ) c).trans (congrArg offT (cols2 m ρ c)))

theorem frameCellNo2 : W13 m ρ c (Proc.devRef .tc main_v70_1) = frameCellNo (m ((c.tc : Thread nD τ).loc main_arg2)) :=
  (host2_flat (W12 m ρ c)).trans (congrArg flat (cellNoT2 m ρ c))

theorem frameCounts2 : W14 m ρ c (Proc.devRef .tc main_v75) = frameCounts (m ((c.tc : Thread nD τ).loc main_arg2)) :=
  (host2_counts (W13 m ρ c)).trans (congrArg counts (frameCellNo2 m ρ c))

theorem frameFeatures2 : W14 m ρ c (Proc.devRef .tc main_v93) = frameFeatures (m ((c.tc : Thread nD τ).loc main_arg2)) := by
  refine (host2_features (W13 m ρ c)).trans ?_
  rw [W13_of m ρ c main_v70_0 (by decide), W13_of m ρ c main_v70_2 (by decide), posT2, offT2, frameCellNo2]
  rfl

theorem frameUnits2 : W15 m ρ c (Proc.devRef .tc main_v94) = frameUnits (m ((c.tc : Thread nD τ).loc main_arg2)) (m ((c.tc : Thread nD τ).loc main_arg3)) (m ((c.tc : Thread nD τ).loc main_arg4)) := by
  refine (W15_arr m ρ c 3).trans ((units5 (V14 m ρ) c).trans ?_)
  rw [show V14 m ρ c main_v93 = _ from frameFeatures2 m ρ c, show V14 m ρ c main_arg3 = _ from W14_args m ρ c main_arg3 (by decide),
    show V14 m ρ c main_v0 = _ from bias14 m ρ c]
  rfl

/-! ## Kept to the end -/

theorem frameCells0_kept : W15 m ρ c (Proc.devRef .tc main_v34) = frameCells (m ((c.tc : Thread nD τ).loc main_arg0)) (m ((c.tc : Thread nD τ).loc main_arg3)) (m ((c.tc : Thread nD τ).loc main_arg4)) :=
  (W15_of m ρ c main_v34 (by decide)).trans ((W14_of m ρ c main_v34 (by decide)).trans ((W13_of m ρ c main_v34 (by decide)).trans ((W12_of m ρ c main_v34 (by decide)).trans ((W11_of m ρ c main_v34 (by decide)).trans ((W10_of m ρ c main_v34 (by decide)).trans ((W9_of m ρ c main_v34 (by decide)).trans ((W8_of m ρ c main_v34 (by decide)).trans ((W7_of m ρ c main_v34 (by decide)).trans (frameCells0 m ρ c)))))))))

theorem frameCells1_kept : W15 m ρ c (Proc.devRef .tc main_v68) = frameCells (m ((c.tc : Thread nD τ).loc main_arg1)) (m ((c.tc : Thread nD τ).loc main_arg3)) (m ((c.tc : Thread nD τ).loc main_arg4)) :=
  (W15_of m ρ c main_v68 (by decide)).trans ((W14_of m ρ c main_v68 (by decide)).trans ((W13_of m ρ c main_v68 (by decide)).trans ((W12_of m ρ c main_v68 (by decide)).trans (frameCells1 m ρ c))))

theorem frameCounts0_kept : W15 m ρ c (Proc.devRef .tc main_v7) = frameCounts (m ((c.tc : Thread nD τ).loc main_arg0)) :=
  (W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans (frameCounts0 m ρ c)))))))))))

theorem frameCounts1_kept : W15 m ρ c (Proc.devRef .tc main_v41) = frameCounts (m ((c.tc : Thread nD τ).loc main_arg1)) :=
  (W15_of m ρ c main_v41 (by decide)).trans ((W14_of m ρ c main_v41 (by decide)).trans ((W13_of m ρ c main_v41 (by decide)).trans ((W12_of m ρ c main_v41 (by decide)).trans ((W11_of m ρ c main_v41 (by decide)).trans ((W10_of m ρ c main_v41 (by decide)).trans (frameCounts1 m ρ c))))))

theorem frameCounts2_kept : W15 m ρ c (Proc.devRef .tc main_v75) = frameCounts (m ((c.tc : Thread nD τ).loc main_arg2)) :=
  (W15_of m ρ c main_v75 (by decide)).trans (frameCounts2 m ρ c)

/-! ## The four results -/

theorem result0 : W16 m ρ c (Proc.devRef .tc main_v97)
    = stacked (frameCells (m ((c.tc : Thread nD τ).loc main_arg0)) (m ((c.tc : Thread nD τ).loc main_arg3)) (m ((c.tc : Thread nD τ).loc main_arg4))) (frameCells (m ((c.tc : Thread nD τ).loc main_arg1)) (m ((c.tc : Thread nD τ).loc main_arg3)) (m ((c.tc : Thread nD τ).loc main_arg4))) :=
  (host_stacked (W15 m ρ c)).trans (congrArg₂ stacked (frameCells0_kept m ρ c) (frameCells1_kept m ρ c))

theorem result1 : W16 m ρ c (Proc.devRef .tc main_v105) = occupancy (frameCounts (m ((c.tc : Thread nD τ).loc main_arg0))) (frameCounts (m ((c.tc : Thread nD τ).loc main_arg1))) :=
  (host_occupancy (W15 m ρ c)).trans (congrArg₂ occupancy (frameCounts0_kept m ρ c) (frameCounts1_kept m ρ c))

theorem result2 : W16 m ρ c (Proc.devRef .tc main_v94) = frameUnits (m ((c.tc : Thread nD τ).loc main_arg2)) (m ((c.tc : Thread nD τ).loc main_arg3)) (m ((c.tc : Thread nD τ).loc main_arg4)) :=
  (W16_of m ρ c main_v94 (by decide)).trans (frameUnits2 m ρ c)

theorem result3 : W16 m ρ c (Proc.devRef .tc main_v109) = howMany (frameCounts (m ((c.tc : Thread nD τ).loc main_arg2))) :=
  (host_howMany (W15 m ρ c)).trans (congrArg howMany (frameCounts2_kept m ρ c))

end Cert.Pillar
-- ==== Proof.Run.lean ====
/-
  THE KERNEL PROGRAM RUN, WITH ITS RESULTS. The generated frame's launch, with more kept of the final state: besides the
  arguments unchanged, the four results hold what Fold.lean reads.
-/
module

public import proofs.«01_k».proof.Proof.Fold

@[expose] public section

set_option maxRecDepth 16384

noncomputable section

namespace Cert.Pillar

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one
set_option backward.isDefEq.respectTransparency.types false in
/-- Every run ends with the results at the frames' functions of the arguments, and the arguments unchanged. -/
theorem kernel_run : θ_run defs (onTc (τ := τ) (main (F := Ideal))) ⟨m, fun _ => 0, ρ⟩ (fun r => ∀ c : Dev nD,
      r.2.mem ((c.tc : Thread nD τ).loc main_v97)
        = stacked (frameCells (m ((c.tc : Thread nD τ).loc main_arg0)) (m ((c.tc : Thread nD τ).loc main_arg3)) (m ((c.tc : Thread nD τ).loc main_arg4)))
            (frameCells (m ((c.tc : Thread nD τ).loc main_arg1)) (m ((c.tc : Thread nD τ).loc main_arg3)) (m ((c.tc : Thread nD τ).loc main_arg4)))
      ∧ r.2.mem ((c.tc : Thread nD τ).loc main_v105)
        = occupancy (frameCounts (m ((c.tc : Thread nD τ).loc main_arg0))) (frameCounts (m ((c.tc : Thread nD τ).loc main_arg1)))
      ∧ r.2.mem ((c.tc : Thread nD τ).loc main_v94)
        = frameUnits (m ((c.tc : Thread nD τ).loc main_arg2)) (m ((c.tc : Thread nD τ).loc main_arg3)) (m ((c.tc : Thread nD τ).loc main_arg4))
      ∧ r.2.mem ((c.tc : Thread nD τ).loc main_v109) = howMany (frameCounts (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h _ c =>
      ⟨(h c _ (mem_uc main_v97 (by decide))).trans (result0 m ρ c),
       (h c _ (mem_uc main_v105 (by decide))).trans (result1 m ρ c),
       (h c _ (mem_uc main_v94 (by decide))).trans (result2 m ρ c),
       (h c _ (mem_uc main_v109 (by decide))).trans (result3 m ρ c),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c)⟩)

end Cert.Pillar
-- ==== Proof.RefPoints.lean ====
/-
  THE REFERENCE'S POINTS. The reference keeps points as rows and works on all of them at once, with the axes' ends and
  the cell's size as three-element vectors. Read at one point, its positions, cell numbers and distances from the cells'
  centres are the functions of Point.lean; so as whole arrays they are the kernel's, with the layout changed.
-/
module

public import proofs.«01_k».proof.Proof.Point
public import proofs.«01_k».proof.Proof.Gen.ReferenceIdeal

@[expose] public section

set_option maxRecDepth 16384

noncomputable section

namespace Cert.Pillar.Ref

open Idealize.ShloMosaic Idealize.ShloMosaic.TcCoe Idealize.SL.Sem
open Cert.ReferenceIdeal Cert.ReferenceIdeal.Gen

/-! ## The three constant vectors -/

/-- The cell's size on each axis. -/
def sizes : FVec Ideal S3 .f32 := fun i => FloatOps.ofBits .f32 (lit0 (S3.rowMajor i))

/-- The axes' lower ends. -/
def lows : FVec Ideal S3 .f32 := fun i => FloatOps.ofBits .f32 (lit1 (S3.rowMajor i))

/-- The axes' upper ends. -/
def highs : FVec Ideal S3 .f32 := fun i => FloatOps.ofBits .f32 (lit2 (S3.rowMajor i))

theorem sizes_at : sizes (ix1 0) = Ideal.ofBits .f32 0x3E4CCCCD#32 ∧ sizes (ix1 1) = Ideal.ofBits .f32 0x3E4CCCCD#32
    ∧ sizes (ix1 2) = Ideal.ofBits .f32 0x40C00000#32 := ⟨rfl, rfl, rfl⟩

theorem lows_at (a : Fin 3) : lows (ix1 a) = lo a := by
  fin_cases a <;> rfl

theorem lens_at (a : Fin 3) : highs (ix1 a) - lo a = len a := by
  fin_cases a
  · exact width_eq
  · exact width_eq
  · exact height_eq

/-! ## The arrays -/

/-- A vector over the axes, the same for every point. -/
def spread (v : FVec Ideal S3 .f32) : FVec Ideal S262144x3 .f32 :=
  broadcastInDim S262144x3 ![0, 1] bcast_S1x3_S262144x3_0_1 (broadcastInDim S1x3 ![1] bcast_S3_S1x3_1 v)

/-- The positions. -/
def positions (x : FVec Ideal S262144x3 .f32) : FVec Ideal S262144x3 .f32 :=
  addf (spread lows) (mulf x (spread (subf highs lows)))

/-- The cells on each axis, before clamping. -/
def steps (x : FVec Ideal S262144x3 .f32) : IVec S262144x3 32 :=
  fptosi 32 (Host.floor (Host.divf (subf (positions x) (spread lows)) (spread sizes)))

/-- A whole number clamped to 0 … 511, for every point. -/
def clamped (z : IVec S262144 32) : IVec S262144 32 :=
  minsi (broadcastInDim S262144 ![] bcast_S_S262144 (id (constantI S_ 32 511#32)))
    (maxsi (broadcastInDim S262144 ![] bcast_S_S262144 (id (constantI S_ 32 0#32))) z)

/-- The cells along the first axis. -/
def cellX (x : FVec Ideal S262144x3 .f32) : IVec S262144 32 :=
  clamped (shapeCast S262144 (extractStridedSlice S262144x1 ![0, 0] (steps x) slices_S262144x3_S262144x1_0_0) shapeCasts_S262144x1_S262144)

/-- The cells along the second axis. -/
def cellY (x : FVec Ideal S262144x3 .f32) : IVec S262144 32 :=
  clamped (shapeCast S262144 (extractStridedSlice S262144x1 ![0, 1] (steps x) slices_S262144x3_S262144x1_0_1) shapeCasts_S262144x1_S262144)

/-- The cell numbers. -/
def cellNos (x : FVec Ideal S262144x3 .f32) : IVec S262144 32 :=
  addi (muli (cellX x) (broadcastInDim S262144 ![] bcast_S_S262144 (constantI S_ 32 512#32))) (cellY x)

/-- A number, the same for every point. -/
def everywhere (v : FVec Ideal S_ .f32) : FVec Ideal S262144 .f32 := broadcastInDim S262144 ![] bcast_S_S262144 v

/-- The centres, along a horizontal axis, of the cells `z`, from the cell's size and the axis's lower end. -/
def middles (z : IVec S262144 32) (size low : FVec Ideal S1 .f32) : FVec Ideal S262144 .f32 :=
  addf (mulf (addf (sitofp .f32 z) (everywhere (constant S_ .f32 0x3F000000#32))) (everywhere (shapeCast S_ size shapeCasts_S1_S_)))
    (everywhere (shapeCast S_ low shapeCasts_S1_S_))

/-- One number per point as a column. -/
def asColumn (v : FVec Ideal S262144 .f32) : FVec Ideal S262144x1 .f32 := broadcastInDim S262144x1 ![0] bcast_S262144_S262144x1_0 v

/-- The cells' centres. -/
def centres (x : FVec Ideal S262144x3 .f32) : FVec Ideal S262144x3 .f32 :=
  concatenate S262144x3 1
    [⟨S262144x1, asColumn (middles (cellX x) (extractStridedSlice S1 ![0] sizes slices_S3_S1_0) (extractStridedSlice S1 ![0] lows slices_S3_S1_0))⟩,
     ⟨S262144x1, asColumn (middles (cellY x) (extractStridedSlice S1 ![1] sizes slices_S3_S1_1) (extractStridedSlice S1 ![1] lows slices_S3_S1_1))⟩,
     ⟨S262144x1, asColumn (everywhere (addf
        (mulf (constant S_ .f32 0x3F000000#32) (shapeCast S_ (extractStridedSlice S1 ![2] sizes slices_S3_S1_2) shapeCasts_S1_S_))
        (shapeCast S_ (extractStridedSlice S1 ![2] lows slices_S3_S1_2) shapeCasts_S1_S_)))⟩]
    concatenates_S262144x1_S262144x1_S262144x1_S262144x3_d1

/-! ## Read at one point -/

theorem positions_at (x : FVec Ideal S262144x3 .f32) (n : Fin 262144) (a : Fin 3) :
    positions x (ix2 n a) = pos (fun a => x (ix2 n a)) a := by
  pointwise [positions, spread, pos, lows_at, lens_at]

theorem steps_at (x : FVec Ideal S262144x3 .f32) (n : Fin 262144) (a : Fin 3) :
    steps x (ix2 n a) = FloatOps.fptosi (F := Ideal) (φ := .f32) 32 (Ideal.liftRound Int.floor
      (Ideal.div (pos (fun a => x (ix2 n a)) a - lo a) (sizes (ix1 a)))) := by
  pointwise [steps, spread, positions_at, lows_at]

theorem cellX_at (x : FVec Ideal S262144x3 .f32) (n : Fin 262144) :
    cellX x (ix1 n) = cell (fun a => x (ix2 n a)) 0 := by
  pointwise [cellX, clamped, steps_at, cell, sizes_at]
  rfl

theorem cellY_at (x : FVec Ideal S262144x3 .f32) (n : Fin 262144) :
    cellY x (ix1 n) = cell (fun a => x (ix2 n a)) 1 := by
  pointwise [cellY, clamped, steps_at, cell, sizes_at]
  rfl

theorem cellNos_at (x : FVec Ideal S262144x3 .f32) (n : Fin 262144) :
    cellNos x (ix1 n) = cellNo (fun a => x (ix2 n a)) := by
  pointwise [cellNos, cellX_at, cellY_at, cellNo]

theorem middles_at (z : IVec S262144 32) (size low : FVec Ideal S1 .f32) (n : Fin 262144)
    (hs : size (ix1 0) = Ideal.ofBits .f32 0x3E4CCCCD#32) (hl : low (ix1 0) = Ideal.ofBits .f32 0xC24CCCCD#32) :
    middles z size low (ix1 n) = mid (z (ix1 n)) := by
  pointwise [middles, everywhere, mid, hs, hl]

theorem offs_at (x : FVec Ideal S262144x3 .f32) (n : Fin 262144) (a : Fin 3) :
    subf (positions x) (centres x) (ix2 n a) = off (fun a => x (ix2 n a)) a := by
  pointwise [centres, asColumn, everywhere, positions_at]
  refine congrArg (pos (fun a => x (ix2 n a)) a - ·) ?_
  fin_cases a
  · exact (middles_at _ _ _ n (by pointwise [sizes_at]) (by pointwise [lows_at, lo])).trans (congrArg mid (cellX_at x n))
  · exact (middles_at _ _ _ n (by pointwise [sizes_at]) (by pointwise [lows_at, lo])).trans (congrArg mid (cellY_at x n))
  · exact middle_eq

end Cert.Pillar.Ref
-- ==== Proof.Equation.lean ====
/-
  THE REFERENCE'S RESULTS ARE THE KERNEL'S. The reference's points are the kernel's with the layout changed, its output
  numbers are the same sums of products, and everything after that is the same steps on the same arrays.
-/
module

public import proofs.«01_k».proof.Proof.Fold
public import proofs.«01_k».proof.Proof.RefPoints
public import proofs.«01_k».proof.Proof.Gen.ReferenceIdeal.Run

@[expose] public section

set_option maxRecDepth 16384

noncomputable section

namespace Cert.Pillar.Ref

open Idealize.ShloMosaic Idealize.ShloMosaic.TcCoe Idealize.SL.Sem
open Idealize.ShloMosaic.StableHlo (launchContents)
open Cert.ReferenceIdeal Cert.ReferenceIdeal.Gen Cert.ReferenceIdeal.Value

/-! ## The points -/

theorem positions_eq (x : FVec Ideal S262144x3 .f32) : positions x = rows (posT (cols x)) := by
  funext i
  obtain ⟨n, a, rfl⟩ : ∃ (n : Fin 262144) (a : Fin 3), i = ix2 n a := ⟨i 0, i 1, eq_ix2 i⟩
  rw [positions_at]
  pointwise [rows, posT, cols]

theorem cellNos_eq (x : FVec Ideal S262144x3 .f32) : cellNos x = frameCellNo x := by
  funext i
  obtain ⟨n, rfl⟩ : ∃ n : Fin 262144, i = ix1 n := ⟨i 0, eq_ix1 i⟩
  rw [cellNos_at]
  pointwise [frameCellNo, flat, cellNoT, cols]

theorem offs_eq (x : FVec Ideal S262144x3 .f32) : subf (positions x) (centres x) = rows (offT (cols x)) := by
  funext i
  obtain ⟨n, a, rfl⟩ : ∃ (n : Fin 262144) (a : Fin 3), i = ix2 n a := ⟨i 0, i 1, eq_ix2 i⟩
  rw [offs_at]
  pointwise [rows, offT, cols]

/-! ## The output numbers -/

/-- The output numbers as the reference writes them: one product of matrices, the bias spread over the points. -/
def outputs (f : FVec Ideal S262144x9 .f32) (w : FVec Ideal S9x32 .f32) (b : FVec Ideal S32 .f32) : FVec Ideal S262144x32 .f32 :=
  maximumf
    (addf (Host.dotGeneral dot_S262144x9_S9x32_S262144x32_1_0_0_1_n_n none f w)
      (broadcastInDim S262144x32 ![0, 1] bcast_S1x32_S262144x32_0_1 (broadcastInDim S1x32 ![1] bcast_S32_S1x32_1 b)))
    (broadcastInDim S262144x32 ![] bcast_S_S262144x32 (constant S_ .f32 0x00000000#32))

theorem outputs_eq (f : FVec Ideal S262144x9 .f32) (w : FVec Ideal S9x32 .f32) (b : FVec Ideal S32 .f32) :
    outputs f w b = units f w (biasRow b) := by
  funext i
  obtain ⟨n, o, rfl⟩ : ∃ (n : Fin 262144) (o : Fin 32), i = ix2 n o := ⟨i 0, i 1, eq_ix2 i⟩
  pointwise [outputs, units, unit, biasRow]

/-! ## One frame -/

/-- The output numbers of a frame's points, from the reference's arrays. -/
def frameOutputs (x : FVec Ideal S262144x3 .f32) (w : FVec Ideal S9x32 .f32) (b : FVec Ideal S32 .f32) : FVec Ideal S262144x32 .f32 :=
  outputs (features (positions x) (cellNos x) (subf (positions x) (centres x))) w b

theorem frameOutputs_eq (x : FVec Ideal S262144x3 .f32) (w : FVec Ideal S9x32 .f32) (b : FVec Ideal S32 .f32) :
    frameOutputs x w b = frameUnits x w b := by
  unfold frameOutputs frameUnits frameFeatures
  rw [outputs_eq, offs_eq, positions_eq, cellNos_eq]

theorem counts_eq (x : FVec Ideal S262144x3 .f32) : counts (cellNos x) = frameCounts x := congrArg counts (cellNos_eq x)

theorem cells_eq (x : FVec Ideal S262144x3 .f32) (w : FVec Ideal S9x32 .f32) (b : FVec Ideal S32 .f32) :
    cellMeans (cellNos x) (counts (cellNos x)) (frameOutputs x w b) = frameCells x w b := by
  unfold frameCells frameCounts
  rw [frameOutputs_eq, cellNos_eq]

/-! ## The reference's named arrays are these -/

variable (V : Valuation τ sig (Elt Ideal))

theorem counts0 : res_main_v27 V = frameCounts (V (Proc.devRef .tc main_arg0)) := (rfl : _ = counts (cellNos _)).trans (counts_eq _)

theorem counts1 : res_main_v119 V = frameCounts (V (Proc.devRef .tc main_arg1)) := (rfl : _ = counts (cellNos _)).trans (counts_eq _)

theorem counts2 : res_main_v211 V = frameCounts (V (Proc.devRef .tc main_arg2)) := (rfl : _ = counts (cellNos _)).trans (counts_eq _)

/-- The first result: the first two frames' cells. -/
theorem stacked_eq : res_main_v278 V = stacked (frameCells (V (Proc.devRef .tc main_arg0)) (V (Proc.devRef .tc main_arg3)) (V (Proc.devRef .tc main_arg4))) (frameCells (V (Proc.devRef .tc main_arg1)) (V (Proc.devRef .tc main_arg3)) (V (Proc.devRef .tc main_arg4))) := by
  rw [← cells_eq, ← cells_eq]
  rfl

variable (m : (ℓ : Loc nD τ sig) → Buf (Elt Ideal) ℓ) (ρ : Dev nD → PrngReg)

/-! ## The run -/

/-- Every run of the reference ends with the results at the same functions of the arguments as the kernel's, and the
    arguments unchanged. -/
theorem reference_run : θ_run defs (onTc (τ := τ) (main (F := Ideal))) ⟨m, fun _ => 0, ρ⟩ (fun r => ∀ c : Dev nD,
      r.2.mem ((c.tc : Thread nD τ).loc main_v278) = stacked (frameCells (m ((c.tc : Thread nD τ).loc main_arg0)) (m ((c.tc : Thread nD τ).loc main_arg3)) (m ((c.tc : Thread nD τ).loc main_arg4))) (frameCells (m ((c.tc : Thread nD τ).loc main_arg1)) (m ((c.tc : Thread nD τ).loc main_arg3)) (m ((c.tc : Thread nD τ).loc main_arg4)))
      ∧ r.2.mem ((c.tc : Thread nD τ).loc main_v286) = occupancy (frameCounts (m ((c.tc : Thread nD τ).loc main_arg0))) (frameCounts (m ((c.tc : Thread nD τ).loc main_arg1)))
      ∧ r.2.mem ((c.tc : Thread nD τ).loc main_v267) = frameUnits (m ((c.tc : Thread nD τ).loc main_arg2)) (m ((c.tc : Thread nD τ).loc main_arg3)) (m ((c.tc : Thread nD τ).loc main_arg4))
      ∧ r.2.mem ((c.tc : Thread nD τ).loc main_v290) = howMany (frameCounts (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c =>
      ⟨(h c).1.trans (stacked_eq (launchContents m c)),
       (h c).2.1.trans (congrArg₂ occupancy (counts0 (launchContents m c)) (counts1 (launchContents m c))),
       (h c).2.2.1.trans (frameOutputs_eq (launchContents m c (Proc.devRef .tc main_arg2)) (launchContents m c (Proc.devRef .tc main_arg3))
         (launchContents m c (Proc.devRef .tc main_arg4))),
       (h c).2.2.2.1.trans (congrArg howMany (counts2 (launchContents m c))),
       (h c).2.2.2.2⟩)
    (Value.run (F := Ideal) m ρ)

end Cert.Pillar.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Run
public import proofs.«01_k».proof.Proof.Equation

@[expose] public section

noncomputable section

namespace Cert.Proof

open Idealize.ShloMosaic Idealize.SL.Sem Cert.Kernel

/-- The reference runs, leaves its arguments unchanged and every counter at zero: it has no counters. -/
theorem quiescent_reference : Cert.quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.Pillar.Ref.reference_run m ρ)

/-- From the same arguments the kernel and the reference end with the same four results. -/
theorem same_results : Cert.algebraic_KernelIdeal_ReferenceIdeal (hKernelIdeal := Cert.KernelIdeal.Gen.facts)
    (hReferenceIdeal := Cert.ReferenceIdeal.Gen.facts) := fun m ρ m' ρ' _ h => by
  refine ⟨_, _, _, _, Cert.Pillar.kernel_run m ρ, (θ_run Cert.ReferenceIdeal.defs _ _).mono (fun r hr c => ?_)
    (Cert.Pillar.Ref.reference_run m' ρ')⟩
  obtain ⟨h0, h1, h2, h3, h4⟩ := h c
  obtain ⟨r0, r1, r2, r3, hargs⟩ := hr c
  rw [h0, h1, h3, h4] at r0
  rw [h0, h1] at r1
  rw [h2, h3, h4] at r2
  rw [h2] at r3
  exact ⟨r0, r1, r2, r3, hargs⟩

/-- The five claims together, over the facts that the programs state. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, same_results⟩

end Cert.Proof

end
